-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 256, 64]⟩ 2 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x768 : Shape := ⟨3, ![2, 512, 768]⟩
abbrev S768x16384 : Shape := ⟨2, ![768, 16384]⟩
abbrev S2x512x8x64 : Shape := ⟨4, ![2, 512, 8, 64]⟩
abbrev S16384x768 : Shape := ⟨2, ![16384, 768]⟩
abbrev S2x8x512x64 : Shape := ⟨4, ![2, 8, 512, 64]⟩
abbrev S1024x768 : Shape := ⟨2, ![1024, 768]⟩
abbrev S768x512 : Shape := ⟨2, ![768, 512]⟩
abbrev S512x768 : Shape := ⟨2, ![512, 768]⟩
abbrev S31x32x768 : Shape := ⟨3, ![31, 32, 768]⟩
abbrev S2 : Shape := ⟨1, ![2]⟩
abbrev S31 : Shape := ⟨1, ![31]⟩
abbrev S_ : Shape := ⟨0, ![]⟩
abbrev S1 : Shape := ⟨1, ![1]⟩
abbrev S512x512 : Shape := ⟨2, ![512, 512]⟩
abbrev S1x512x768 : Shape := ⟨3, ![1, 512, 768]⟩
abbrev S512x64 : Shape := ⟨2, ![512, 64]⟩
abbrev S1x1x512x64 : Shape := ⟨4, ![1, 1, 512, 64]⟩
abbrev S512 : Shape := ⟨1, ![512]⟩
abbrev S512x1 : Shape := ⟨2, ![512, 1]⟩
abbrev S32x768 : Shape := ⟨2, ![32, 768]⟩
abbrev S1x32x768 : Shape := ⟨3, ![1, 32, 768]⟩

abbrev nBuf : Space → Nat
  | .hbm => 9
  | .vmem => 9
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x8x64, .f32⟩
  | .hbm, ⟨3, _⟩ => ⟨S2x512x8x64, .f32⟩
  | .hbm, ⟨4, _⟩ => ⟨S16384x768, .f32⟩
  | .hbm, ⟨5, _⟩ => ⟨S2x8x512x64, .f32⟩
  | .hbm, ⟨6, _⟩ => ⟨S2x8x512x64, .f32⟩
  | .hbm, ⟨7, _⟩ => ⟨S1024x768, .f32⟩
  | .hbm, ⟨8, _⟩ => ⟨S2x512x768, .f32⟩
  | .local _ .vmem, ⟨0, _⟩ => ⟨S2x512x768, .f32⟩
  | .local _ .vmem, ⟨1, _⟩ => ⟨S2x8x512x64, .f32⟩
  | .local _ .vmem, ⟨2, _⟩ => ⟨S2x8x512x64, .f32⟩
  | .local _ .vmem, ⟨3, _⟩ => ⟨S1024x768, .f32⟩
  | .local _ .vmem, ⟨4, _⟩ => ⟨S768x512, .f32⟩
  | .local _ .vmem, ⟨5, _⟩ => ⟨S512x768, .f32⟩
  | .local _ .vmem, ⟨6, _⟩ => ⟨S1024x768, .bf16⟩
  | .local _ .vmem, ⟨7, _⟩ => ⟨S1024x768, .bf16⟩
  | .local _ .vmem, ⟨8, _⟩ => ⟨S31x32x768, .bf16⟩
  | _, _ => ⟨S2x512x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32 : BitVec 32 := 512#32
  let v128 : BitVec 32 := Scalar.muli v2 c512_i32
  ![0, v128.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c512_i32 : BitVec 32 := 512#32
  let v128 : BitVec 32 := Scalar.muli v2 c512_i32
  let c0_i32_127 : BitVec 32 := 0#32
  ![v128.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_365 : BitVec 32 := 32#32
  let v557 : BitVec 32 := Scalar.muli v2 c32_i32_365
  let v558 : Index := Scalar.indexCast v557
  let c0_366 : Index := 0#32
  ![v558.toNat, 0]
def k0_off4 (d0 : Dev nD) (c1_i32_367 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v561 : BitVec 32 := Scalar.addi v2 c1_i32_367
  let c32_i32_368 : BitVec 32 := 32#32
  let v562 : BitVec 32 := Scalar.remsi v561 c32_i32_368
  let c32_i32_369 : BitVec 32 := 32#32
  let v563 : BitVec 32 := Scalar.muli v562 c32_i32_369
  let c0_i32_377 : BitVec 32 := 0#32
  ![v563.toNat, 0]
def k0_dev32 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_367 : BitVec 32 := 1#32
  let v561 : BitVec 32 := Scalar.addi v2 c1_i32_367
  let c32_i32_368 : BitVec 32 := 32#32
  let v562 : BitVec 32 := Scalar.remsi v561 c32_i32_368
  let c1_i32_373 : BitVec 32 := 1#32
  let v564 : BitVec 32 := Scalar.muli v562 c1_i32_373
  let v565 : BitVec 32 := Scalar.addi c0_i32_374 v564
  v565.toNat
def k0_dev33 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_378 : BitVec 32 := 2#32
  let v573 : BitVec 32 := Scalar.addi v2 c2_i32_378
  let c32_i32_379 : BitVec 32 := 32#32
  let v574 : BitVec 32 := Scalar.remsi v573 c32_i32_379
  let c1_i32_384 : BitVec 32 := 1#32
  let v576 : BitVec 32 := Scalar.muli v574 c1_i32_384
  let v577 : BitVec 32 := Scalar.addi c0_i32_385 v576
  v577.toNat
def k0_dev34 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_389 : BitVec 32 := 3#32
  let v585 : BitVec 32 := Scalar.addi v2 c3_i32_389
  let c32_i32_390 : BitVec 32 := 32#32
  let v586 : BitVec 32 := Scalar.remsi v585 c32_i32_390
  let c1_i32_395 : BitVec 32 := 1#32
  let v588 : BitVec 32 := Scalar.muli v586 c1_i32_395
  let v589 : BitVec 32 := Scalar.addi c0_i32_396 v588
  v589.toNat
def k0_dev35 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_400 : BitVec 32 := 4#32
  let v597 : BitVec 32 := Scalar.addi v2 c4_i32_400
  let c32_i32_401 : BitVec 32 := 32#32
  let v598 : BitVec 32 := Scalar.remsi v597 c32_i32_401
  let c1_i32_406 : BitVec 32 := 1#32
  let v600 : BitVec 32 := Scalar.muli v598 c1_i32_406
  let v601 : BitVec 32 := Scalar.addi c0_i32_407 v600
  v601.toNat
def k0_dev36 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_411 : BitVec 32 := 5#32
  let v609 : BitVec 32 := Scalar.addi v2 c5_i32_411
  let c32_i32_412 : BitVec 32 := 32#32
  let v610 : BitVec 32 := Scalar.remsi v609 c32_i32_412
  let c1_i32_417 : BitVec 32 := 1#32
  let v612 : BitVec 32 := Scalar.muli v610 c1_i32_417
  let v613 : BitVec 32 := Scalar.addi c0_i32_418 v612
  v613.toNat
def k0_dev37 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_422 : BitVec 32 := 6#32
  let v621 : BitVec 32 := Scalar.addi v2 c6_i32_422
  let c32_i32_423 : BitVec 32 := 32#32
  let v622 : BitVec 32 := Scalar.remsi v621 c32_i32_423
  let c1_i32_428 : BitVec 32 := 1#32
  let v624 : BitVec 32 := Scalar.muli v622 c1_i32_428
  let v625 : BitVec 32 := Scalar.addi c0_i32_429 v624
  v625.toNat
def k0_dev38 (d0 : Dev nD) : Nat :=
  let c0_i32_440 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_433 : BitVec 32 := 7#32
  let v633 : BitVec 32 := Scalar.addi v2 c7_i32_433
  let c32_i32_434 : BitVec 32 := 32#32
  let v634 : BitVec 32 := Scalar.remsi v633 c32_i32_434
  let c1_i32_439 : BitVec 32 := 1#32
  let v636 : BitVec 32 := Scalar.muli v634 c1_i32_439
  let v637 : BitVec 32 := Scalar.addi c0_i32_440 v636
  v637.toNat
def k0_dev39 (d0 : Dev nD) : Nat :=
  let c0_i32_451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_444 : BitVec 32 := 8#32
  let v645 : BitVec 32 := Scalar.addi v2 c8_i32_444
  let c32_i32_445 : BitVec 32 := 32#32
  let v646 : BitVec 32 := Scalar.remsi v645 c32_i32_445
  let c1_i32_450 : BitVec 32 := 1#32
  let v648 : BitVec 32 := Scalar.muli v646 c1_i32_450
  let v649 : BitVec 32 := Scalar.addi c0_i32_451 v648
  v649.toNat
def k0_dev40 (d0 : Dev nD) : Nat :=
  let c0_i32_462 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_455 : BitVec 32 := 9#32
  let v657 : BitVec 32 := Scalar.addi v2 c9_i32_455
  let c32_i32_456 : BitVec 32 := 32#32
  let v658 : BitVec 32 := Scalar.remsi v657 c32_i32_456
  let c1_i32_461 : BitVec 32 := 1#32
  let v660 : BitVec 32 := Scalar.muli v658 c1_i32_461
  let v661 : BitVec 32 := Scalar.addi c0_i32_462 v660
  v661.toNat
def k0_dev41 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_466 : BitVec 32 := 10#32
  let v669 : BitVec 32 := Scalar.addi v2 c10_i32_466
  let c32_i32_467 : BitVec 32 := 32#32
  let v670 : BitVec 32 := Scalar.remsi v669 c32_i32_467
  let c1_i32_472 : BitVec 32 := 1#32
  let v672 : BitVec 32 := Scalar.muli v670 c1_i32_472
  let v673 : BitVec 32 := Scalar.addi c0_i32_473 v672
  v673.toNat
def k0_dev42 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_477 : BitVec 32 := 11#32
  let v681 : BitVec 32 := Scalar.addi v2 c11_i32_477
  let c32_i32_478 : BitVec 32 := 32#32
  let v682 : BitVec 32 := Scalar.remsi v681 c32_i32_478
  let c1_i32_483 : BitVec 32 := 1#32
  let v684 : BitVec 32 := Scalar.muli v682 c1_i32_483
  let v685 : BitVec 32 := Scalar.addi c0_i32_484 v684
  v685.toNat
def k0_dev43 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_488 : BitVec 32 := 12#32
  let v693 : BitVec 32 := Scalar.addi v2 c12_i32_488
  let c32_i32_489 : BitVec 32 := 32#32
  let v694 : BitVec 32 := Scalar.remsi v693 c32_i32_489
  let c1_i32_494 : BitVec 32 := 1#32
  let v696 : BitVec 32 := Scalar.muli v694 c1_i32_494
  let v697 : BitVec 32 := Scalar.addi c0_i32_495 v696
  v697.toNat
def k0_dev44 (d0 : Dev nD) : Nat :=
  let c0_i32_506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_499 : BitVec 32 := 13#32
  let v705 : BitVec 32 := Scalar.addi v2 c13_i32_499
  let c32_i32_500 : BitVec 32 := 32#32
  let v706 : BitVec 32 := Scalar.remsi v705 c32_i32_500
  let c1_i32_505 : BitVec 32 := 1#32
  let v708 : BitVec 32 := Scalar.muli v706 c1_i32_505
  let v709 : BitVec 32 := Scalar.addi c0_i32_506 v708
  v709.toNat
def k0_dev45 (d0 : Dev nD) : Nat :=
  let c0_i32_517 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_510 : BitVec 32 := 14#32
  let v717 : BitVec 32 := Scalar.addi v2 c14_i32_510
  let c32_i32_511 : BitVec 32 := 32#32
  let v718 : BitVec 32 := Scalar.remsi v717 c32_i32_511
  let c1_i32_516 : BitVec 32 := 1#32
  let v720 : BitVec 32 := Scalar.muli v718 c1_i32_516
  let v721 : BitVec 32 := Scalar.addi c0_i32_517 v720
  v721.toNat
def k0_dev46 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_521 : BitVec 32 := 15#32
  let v729 : BitVec 32 := Scalar.addi v2 c15_i32_521
  let c32_i32_522 : BitVec 32 := 32#32
  let v730 : BitVec 32 := Scalar.remsi v729 c32_i32_522
  let c1_i32_527 : BitVec 32 := 1#32
  let v732 : BitVec 32 := Scalar.muli v730 c1_i32_527
  let v733 : BitVec 32 := Scalar.addi c0_i32_528 v732
  v733.toNat
def k0_dev47 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_532 : BitVec 32 := 16#32
  let v741 : BitVec 32 := Scalar.addi v2 c16_i32_532
  let c32_i32_533 : BitVec 32 := 32#32
  let v742 : BitVec 32 := Scalar.remsi v741 c32_i32_533
  let c1_i32_538 : BitVec 32 := 1#32
  let v744 : BitVec 32 := Scalar.muli v742 c1_i32_538
  let v745 : BitVec 32 := Scalar.addi c0_i32_539 v744
  v745.toNat
def k0_dev48 (d0 : Dev nD) : Nat :=
  let c0_i32_550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_543 : BitVec 32 := 17#32
  let v753 : BitVec 32 := Scalar.addi v2 c17_i32_543
  let c32_i32_544 : BitVec 32 := 32#32
  let v754 : BitVec 32 := Scalar.remsi v753 c32_i32_544
  let c1_i32_549 : BitVec 32 := 1#32
  let v756 : BitVec 32 := Scalar.muli v754 c1_i32_549
  let v757 : BitVec 32 := Scalar.addi c0_i32_550 v756
  v757.toNat
def k0_dev49 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_554 : BitVec 32 := 18#32
  let v765 : BitVec 32 := Scalar.addi v2 c18_i32_554
  let c32_i32_555 : BitVec 32 := 32#32
  let v766 : BitVec 32 := Scalar.remsi v765 c32_i32_555
  let c1_i32_560 : BitVec 32 := 1#32
  let v768 : BitVec 32 := Scalar.muli v766 c1_i32_560
  let v769 : BitVec 32 := Scalar.addi c0_i32_561 v768
  v769.toNat
def k0_dev50 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_565 : BitVec 32 := 19#32
  let v777 : BitVec 32 := Scalar.addi v2 c19_i32_565
  let c32_i32_566 : BitVec 32 := 32#32
  let v778 : BitVec 32 := Scalar.remsi v777 c32_i32_566
  let c1_i32_571 : BitVec 32 := 1#32
  let v780 : BitVec 32 := Scalar.muli v778 c1_i32_571
  let v781 : BitVec 32 := Scalar.addi c0_i32_572 v780
  v781.toNat
def k0_dev51 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_576 : BitVec 32 := 20#32
  let v789 : BitVec 32 := Scalar.addi v2 c20_i32_576
  let c32_i32_577 : BitVec 32 := 32#32
  let v790 : BitVec 32 := Scalar.remsi v789 c32_i32_577
  let c1_i32_582 : BitVec 32 := 1#32
  let v792 : BitVec 32 := Scalar.muli v790 c1_i32_582
  let v793 : BitVec 32 := Scalar.addi c0_i32_583 v792
  v793.toNat
def k0_dev52 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_587 : BitVec 32 := 21#32
  let v801 : BitVec 32 := Scalar.addi v2 c21_i32_587
  let c32_i32_588 : BitVec 32 := 32#32
  let v802 : BitVec 32 := Scalar.remsi v801 c32_i32_588
  let c1_i32_593 : BitVec 32 := 1#32
  let v804 : BitVec 32 := Scalar.muli v802 c1_i32_593
  let v805 : BitVec 32 := Scalar.addi c0_i32_594 v804
  v805.toNat
def k0_dev53 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_598 : BitVec 32 := 22#32
  let v813 : BitVec 32 := Scalar.addi v2 c22_i32_598
  let c32_i32_599 : BitVec 32 := 32#32
  let v814 : BitVec 32 := Scalar.remsi v813 c32_i32_599
  let c1_i32_604 : BitVec 32 := 1#32
  let v816 : BitVec 32 := Scalar.muli v814 c1_i32_604
  let v817 : BitVec 32 := Scalar.addi c0_i32_605 v816
  v817.toNat
def k0_dev54 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_796 : BitVec 32 := 23#32
  let v1001 : BitVec 32 := Scalar.addi v2 c23_i32_796
  let c32_i32_797 : BitVec 32 := 32#32
  let v1002 : BitVec 32 := Scalar.remsi v1001 c32_i32_797
  let c1_i32_802 : BitVec 32 := 1#32
  let v1004 : BitVec 32 := Scalar.muli v1002 c1_i32_802
  let v1005 : BitVec 32 := Scalar.addi c0_i32_803 v1004
  v1005.toNat
def k0_dev55 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_807 : BitVec 32 := 24#32
  let v1013 : BitVec 32 := Scalar.addi v2 c24_i32_807
  let c32_i32_808 : BitVec 32 := 32#32
  let v1014 : BitVec 32 := Scalar.remsi v1013 c32_i32_808
  let c1_i32_813 : BitVec 32 := 1#32
  let v1016 : BitVec 32 := Scalar.muli v1014 c1_i32_813
  let v1017 : BitVec 32 := Scalar.addi c0_i32_814 v1016
  v1017.toNat
def k0_dev56 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_818 : BitVec 32 := 25#32
  let v1025 : BitVec 32 := Scalar.addi v2 c25_i32_818
  let c32_i32_819 : BitVec 32 := 32#32
  let v1026 : BitVec 32 := Scalar.remsi v1025 c32_i32_819
  let c1_i32_824 : BitVec 32 := 1#32
  let v1028 : BitVec 32 := Scalar.muli v1026 c1_i32_824
  let v1029 : BitVec 32 := Scalar.addi c0_i32_825 v1028
  v1029.toNat
def k0_dev57 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_829 : BitVec 32 := 26#32
  let v1037 : BitVec 32 := Scalar.addi v2 c26_i32_829
  let c32_i32_830 : BitVec 32 := 32#32
  let v1038 : BitVec 32 := Scalar.remsi v1037 c32_i32_830
  let c1_i32_835 : BitVec 32 := 1#32
  let v1040 : BitVec 32 := Scalar.muli v1038 c1_i32_835
  let v1041 : BitVec 32 := Scalar.addi c0_i32_836 v1040
  v1041.toNat
def k0_dev58 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_840 : BitVec 32 := 27#32
  let v1049 : BitVec 32 := Scalar.addi v2 c27_i32_840
  let c32_i32_841 : BitVec 32 := 32#32
  let v1050 : BitVec 32 := Scalar.remsi v1049 c32_i32_841
  let c1_i32_846 : BitVec 32 := 1#32
  let v1052 : BitVec 32 := Scalar.muli v1050 c1_i32_846
  let v1053 : BitVec 32 := Scalar.addi c0_i32_847 v1052
  v1053.toNat
def k0_dev59 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_851 : BitVec 32 := 28#32
  let v1061 : BitVec 32 := Scalar.addi v2 c28_i32_851
  let c32_i32_852 : BitVec 32 := 32#32
  let v1062 : BitVec 32 := Scalar.remsi v1061 c32_i32_852
  let c1_i32_857 : BitVec 32 := 1#32
  let v1064 : BitVec 32 := Scalar.muli v1062 c1_i32_857
  let v1065 : BitVec 32 := Scalar.addi c0_i32_858 v1064
  v1065.toNat
def k0_dev60 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_862 : BitVec 32 := 29#32
  let v1073 : BitVec 32 := Scalar.addi v2 c29_i32_862
  let c32_i32_863 : BitVec 32 := 32#32
  let v1074 : BitVec 32 := Scalar.remsi v1073 c32_i32_863
  let c1_i32_868 : BitVec 32 := 1#32
  let v1076 : BitVec 32 := Scalar.muli v1074 c1_i32_868
  let v1077 : BitVec 32 := Scalar.addi c0_i32_869 v1076
  v1077.toNat
def k0_dev61 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_873 : BitVec 32 := 30#32
  let v1085 : BitVec 32 := Scalar.addi v2 c30_i32_873
  let c32_i32_874 : BitVec 32 := 32#32
  let v1086 : BitVec 32 := Scalar.remsi v1085 c32_i32_874
  let c1_i32_879 : BitVec 32 := 1#32
  let v1088 : BitVec 32 := Scalar.muli v1086 c1_i32_879
  let v1089 : BitVec 32 := Scalar.addi c0_i32_880 v1088
  v1089.toNat
def k0_dev62 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_884 : BitVec 32 := 31#32
  let v1097 : BitVec 32 := Scalar.addi v2 c31_i32_884
  let c32_i32_885 : BitVec 32 := 32#32
  let v1098 : BitVec 32 := Scalar.remsi v1097 c32_i32_885
  let c1_i32_890 : BitVec 32 := 1#32
  let v1100 : BitVec 32 := Scalar.muli v1098 c1_i32_890
  let v1101 : BitVec 32 := Scalar.addi c0_i32_891 v1100
  v1101.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1250 : BitVec 32 := 32#32
  let v1441 : BitVec 32 := Scalar.muli v2 c32_i32_1250
  let c0_i32_1255 : BitVec 32 := 0#32
  ![v1441.toNat, 0]
def k0_dev63 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1247 : BitVec 32 := 1#32
  let v1438 : BitVec 32 := Scalar.addi v2 c1_i32_1247
  let c32_i32_1248 : BitVec 32 := 32#32
  let v1439 : BitVec 32 := Scalar.remsi v1438 c32_i32_1248
  let c1_i32_1253 : BitVec 32 := 1#32
  let v1442 : BitVec 32 := Scalar.muli v1439 c1_i32_1253
  let v1443 : BitVec 32 := Scalar.addi c0_i32_1254 v1442
  v1443.toNat
def k0_dev64 (d0 : Dev nD) : Nat :=
  let c0_i32_1264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1257 : BitVec 32 := 2#32
  let v1450 : BitVec 32 := Scalar.addi v2 c2_i32_1257
  let c32_i32_1258 : BitVec 32 := 32#32
  let v1451 : BitVec 32 := Scalar.remsi v1450 c32_i32_1258
  let c1_i32_1263 : BitVec 32 := 1#32
  let v1454 : BitVec 32 := Scalar.muli v1451 c1_i32_1263
  let v1455 : BitVec 32 := Scalar.addi c0_i32_1264 v1454
  v1455.toNat
def k0_dev65 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1267 : BitVec 32 := 3#32
  let v1462 : BitVec 32 := Scalar.addi v2 c3_i32_1267
  let c32_i32_1268 : BitVec 32 := 32#32
  let v1463 : BitVec 32 := Scalar.remsi v1462 c32_i32_1268
  let c1_i32_1273 : BitVec 32 := 1#32
  let v1466 : BitVec 32 := Scalar.muli v1463 c1_i32_1273
  let v1467 : BitVec 32 := Scalar.addi c0_i32_1274 v1466
  v1467.toNat
def k0_dev66 (d0 : Dev nD) : Nat :=
  let c0_i32_1284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1277 : BitVec 32 := 4#32
  let v1474 : BitVec 32 := Scalar.addi v2 c4_i32_1277
  let c32_i32_1278 : BitVec 32 := 32#32
  let v1475 : BitVec 32 := Scalar.remsi v1474 c32_i32_1278
  let c1_i32_1283 : BitVec 32 := 1#32
  let v1478 : BitVec 32 := Scalar.muli v1475 c1_i32_1283
  let v1479 : BitVec 32 := Scalar.addi c0_i32_1284 v1478
  v1479.toNat
def k0_dev67 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1287 : BitVec 32 := 5#32
  let v1486 : BitVec 32 := Scalar.addi v2 c5_i32_1287
  let c32_i32_1288 : BitVec 32 := 32#32
  let v1487 : BitVec 32 := Scalar.remsi v1486 c32_i32_1288
  let c1_i32_1293 : BitVec 32 := 1#32
  let v1490 : BitVec 32 := Scalar.muli v1487 c1_i32_1293
  let v1491 : BitVec 32 := Scalar.addi c0_i32_1294 v1490
  v1491.toNat
def k0_dev68 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1297 : BitVec 32 := 6#32
  let v1498 : BitVec 32 := Scalar.addi v2 c6_i32_1297
  let c32_i32_1298 : BitVec 32 := 32#32
  let v1499 : BitVec 32 := Scalar.remsi v1498 c32_i32_1298
  let c1_i32_1303 : BitVec 32 := 1#32
  let v1502 : BitVec 32 := Scalar.muli v1499 c1_i32_1303
  let v1503 : BitVec 32 := Scalar.addi c0_i32_1304 v1502
  v1503.toNat
def k0_dev69 (d0 : Dev nD) : Nat :=
  let c0_i32_1314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1307 : BitVec 32 := 7#32
  let v1510 : BitVec 32 := Scalar.addi v2 c7_i32_1307
  let c32_i32_1308 : BitVec 32 := 32#32
  let v1511 : BitVec 32 := Scalar.remsi v1510 c32_i32_1308
  let c1_i32_1313 : BitVec 32 := 1#32
  let v1514 : BitVec 32 := Scalar.muli v1511 c1_i32_1313
  let v1515 : BitVec 32 := Scalar.addi c0_i32_1314 v1514
  v1515.toNat
def k0_dev70 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1317 : BitVec 32 := 8#32
  let v1522 : BitVec 32 := Scalar.addi v2 c8_i32_1317
  let c32_i32_1318 : BitVec 32 := 32#32
  let v1523 : BitVec 32 := Scalar.remsi v1522 c32_i32_1318
  let c1_i32_1323 : BitVec 32 := 1#32
  let v1526 : BitVec 32 := Scalar.muli v1523 c1_i32_1323
  let v1527 : BitVec 32 := Scalar.addi c0_i32_1324 v1526
  v1527.toNat
def k0_dev71 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1327 : BitVec 32 := 9#32
  let v1534 : BitVec 32 := Scalar.addi v2 c9_i32_1327
  let c32_i32_1328 : BitVec 32 := 32#32
  let v1535 : BitVec 32 := Scalar.remsi v1534 c32_i32_1328
  let c1_i32_1333 : BitVec 32 := 1#32
  let v1538 : BitVec 32 := Scalar.muli v1535 c1_i32_1333
  let v1539 : BitVec 32 := Scalar.addi c0_i32_1334 v1538
  v1539.toNat
def k0_dev72 (d0 : Dev nD) : Nat :=
  let c0_i32_1344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1337 : BitVec 32 := 10#32
  let v1546 : BitVec 32 := Scalar.addi v2 c10_i32_1337
  let c32_i32_1338 : BitVec 32 := 32#32
  let v1547 : BitVec 32 := Scalar.remsi v1546 c32_i32_1338
  let c1_i32_1343 : BitVec 32 := 1#32
  let v1550 : BitVec 32 := Scalar.muli v1547 c1_i32_1343
  let v1551 : BitVec 32 := Scalar.addi c0_i32_1344 v1550
  v1551.toNat
def k0_dev73 (d0 : Dev nD) : Nat :=
  let c0_i32_1354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1347 : BitVec 32 := 11#32
  let v1558 : BitVec 32 := Scalar.addi v2 c11_i32_1347
  let c32_i32_1348 : BitVec 32 := 32#32
  let v1559 : BitVec 32 := Scalar.remsi v1558 c32_i32_1348
  let c1_i32_1353 : BitVec 32 := 1#32
  let v1562 : BitVec 32 := Scalar.muli v1559 c1_i32_1353
  let v1563 : BitVec 32 := Scalar.addi c0_i32_1354 v1562
  v1563.toNat
def k0_dev74 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1357 : BitVec 32 := 12#32
  let v1570 : BitVec 32 := Scalar.addi v2 c12_i32_1357
  let c32_i32_1358 : BitVec 32 := 32#32
  let v1571 : BitVec 32 := Scalar.remsi v1570 c32_i32_1358
  let c1_i32_1363 : BitVec 32 := 1#32
  let v1574 : BitVec 32 := Scalar.muli v1571 c1_i32_1363
  let v1575 : BitVec 32 := Scalar.addi c0_i32_1364 v1574
  v1575.toNat
def k0_dev75 (d0 : Dev nD) : Nat :=
  let c0_i32_1374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1367 : BitVec 32 := 13#32
  let v1582 : BitVec 32 := Scalar.addi v2 c13_i32_1367
  let c32_i32_1368 : BitVec 32 := 32#32
  let v1583 : BitVec 32 := Scalar.remsi v1582 c32_i32_1368
  let c1_i32_1373 : BitVec 32 := 1#32
  let v1586 : BitVec 32 := Scalar.muli v1583 c1_i32_1373
  let v1587 : BitVec 32 := Scalar.addi c0_i32_1374 v1586
  v1587.toNat
def k0_dev76 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1377 : BitVec 32 := 14#32
  let v1594 : BitVec 32 := Scalar.addi v2 c14_i32_1377
  let c32_i32_1378 : BitVec 32 := 32#32
  let v1595 : BitVec 32 := Scalar.remsi v1594 c32_i32_1378
  let c1_i32_1383 : BitVec 32 := 1#32
  let v1598 : BitVec 32 := Scalar.muli v1595 c1_i32_1383
  let v1599 : BitVec 32 := Scalar.addi c0_i32_1384 v1598
  v1599.toNat
def k0_dev77 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1387 : BitVec 32 := 15#32
  let v1606 : BitVec 32 := Scalar.addi v2 c15_i32_1387
  let c32_i32_1388 : BitVec 32 := 32#32
  let v1607 : BitVec 32 := Scalar.remsi v1606 c32_i32_1388
  let c1_i32_1393 : BitVec 32 := 1#32
  let v1610 : BitVec 32 := Scalar.muli v1607 c1_i32_1393
  let v1611 : BitVec 32 := Scalar.addi c0_i32_1394 v1610
  v1611.toNat
def k0_dev78 (d0 : Dev nD) : Nat :=
  let c0_i32_1404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1397 : BitVec 32 := 16#32
  let v1618 : BitVec 32 := Scalar.addi v2 c16_i32_1397
  let c32_i32_1398 : BitVec 32 := 32#32
  let v1619 : BitVec 32 := Scalar.remsi v1618 c32_i32_1398
  let c1_i32_1403 : BitVec 32 := 1#32
  let v1622 : BitVec 32 := Scalar.muli v1619 c1_i32_1403
  let v1623 : BitVec 32 := Scalar.addi c0_i32_1404 v1622
  v1623.toNat
def k0_dev79 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1407 : BitVec 32 := 17#32
  let v1630 : BitVec 32 := Scalar.addi v2 c17_i32_1407
  let c32_i32_1408 : BitVec 32 := 32#32
  let v1631 : BitVec 32 := Scalar.remsi v1630 c32_i32_1408
  let c1_i32_1413 : BitVec 32 := 1#32
  let v1634 : BitVec 32 := Scalar.muli v1631 c1_i32_1413
  let v1635 : BitVec 32 := Scalar.addi c0_i32_1414 v1634
  v1635.toNat
def k0_dev80 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1417 : BitVec 32 := 18#32
  let v1642 : BitVec 32 := Scalar.addi v2 c18_i32_1417
  let c32_i32_1418 : BitVec 32 := 32#32
  let v1643 : BitVec 32 := Scalar.remsi v1642 c32_i32_1418
  let c1_i32_1423 : BitVec 32 := 1#32
  let v1646 : BitVec 32 := Scalar.muli v1643 c1_i32_1423
  let v1647 : BitVec 32 := Scalar.addi c0_i32_1424 v1646
  v1647.toNat
def k0_dev81 (d0 : Dev nD) : Nat :=
  let c0_i32_1434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1427 : BitVec 32 := 19#32
  let v1654 : BitVec 32 := Scalar.addi v2 c19_i32_1427
  let c32_i32_1428 : BitVec 32 := 32#32
  let v1655 : BitVec 32 := Scalar.remsi v1654 c32_i32_1428
  let c1_i32_1433 : BitVec 32 := 1#32
  let v1658 : BitVec 32 := Scalar.muli v1655 c1_i32_1433
  let v1659 : BitVec 32 := Scalar.addi c0_i32_1434 v1658
  v1659.toNat
def k0_dev82 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1437 : BitVec 32 := 20#32
  let v1666 : BitVec 32 := Scalar.addi v2 c20_i32_1437
  let c32_i32_1438 : BitVec 32 := 32#32
  let v1667 : BitVec 32 := Scalar.remsi v1666 c32_i32_1438
  let c1_i32_1443 : BitVec 32 := 1#32
  let v1670 : BitVec 32 := Scalar.muli v1667 c1_i32_1443
  let v1671 : BitVec 32 := Scalar.addi c0_i32_1444 v1670
  v1671.toNat
def k0_dev83 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1447 : BitVec 32 := 21#32
  let v1678 : BitVec 32 := Scalar.addi v2 c21_i32_1447
  let c32_i32_1448 : BitVec 32 := 32#32
  let v1679 : BitVec 32 := Scalar.remsi v1678 c32_i32_1448
  let c1_i32_1453 : BitVec 32 := 1#32
  let v1682 : BitVec 32 := Scalar.muli v1679 c1_i32_1453
  let v1683 : BitVec 32 := Scalar.addi c0_i32_1454 v1682
  v1683.toNat
def k0_dev84 (d0 : Dev nD) : Nat :=
  let c0_i32_1464 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1457 : BitVec 32 := 22#32
  let v1690 : BitVec 32 := Scalar.addi v2 c22_i32_1457
  let c32_i32_1458 : BitVec 32 := 32#32
  let v1691 : BitVec 32 := Scalar.remsi v1690 c32_i32_1458
  let c1_i32_1463 : BitVec 32 := 1#32
  let v1694 : BitVec 32 := Scalar.muli v1691 c1_i32_1463
  let v1695 : BitVec 32 := Scalar.addi c0_i32_1464 v1694
  v1695.toNat
def k0_off6 (d0 : Dev nD) (c1_i32_1473 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1708 : BitVec 32 := Scalar.subi v2 c1_i32_1473
  let c32_i32_1474 : BitVec 32 := 32#32
  let v1709 : BitVec 32 := Scalar.addi v1708 c32_i32_1474
  let c32_i32_1475 : BitVec 32 := 32#32
  let v1710 : BitVec 32 := Scalar.remsi v1709 c32_i32_1475
  let c32_i32_1476 : BitVec 32 := 32#32
  let v1711 : BitVec 32 := Scalar.muli v1710 c32_i32_1476
  let v1712 : Index := Scalar.indexCast v1711
  let c0_1477 : Index := 0#32
  ![v1712.toNat, 0]
def k0_dev85 (d0 : Dev nD) : Nat :=
  let c0_i32_1672 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1665 : BitVec 32 := 23#32
  let v1922 : BitVec 32 := Scalar.addi v2 c23_i32_1665
  let c32_i32_1666 : BitVec 32 := 32#32
  let v1923 : BitVec 32 := Scalar.remsi v1922 c32_i32_1666
  let c1_i32_1671 : BitVec 32 := 1#32
  let v1926 : BitVec 32 := Scalar.muli v1923 c1_i32_1671
  let v1927 : BitVec 32 := Scalar.addi c0_i32_1672 v1926
  v1927.toNat
def k0_dev86 (d0 : Dev nD) : Nat :=
  let c0_i32_1682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1675 : BitVec 32 := 24#32
  let v1934 : BitVec 32 := Scalar.addi v2 c24_i32_1675
  let c32_i32_1676 : BitVec 32 := 32#32
  let v1935 : BitVec 32 := Scalar.remsi v1934 c32_i32_1676
  let c1_i32_1681 : BitVec 32 := 1#32
  let v1938 : BitVec 32 := Scalar.muli v1935 c1_i32_1681
  let v1939 : BitVec 32 := Scalar.addi c0_i32_1682 v1938
  v1939.toNat
def k0_dev87 (d0 : Dev nD) : Nat :=
  let c0_i32_1692 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1685 : BitVec 32 := 25#32
  let v1946 : BitVec 32 := Scalar.addi v2 c25_i32_1685
  let c32_i32_1686 : BitVec 32 := 32#32
  let v1947 : BitVec 32 := Scalar.remsi v1946 c32_i32_1686
  let c1_i32_1691 : BitVec 32 := 1#32
  let v1950 : BitVec 32 := Scalar.muli v1947 c1_i32_1691
  let v1951 : BitVec 32 := Scalar.addi c0_i32_1692 v1950
  v1951.toNat
def k0_dev88 (d0 : Dev nD) : Nat :=
  let c0_i32_1702 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1695 : BitVec 32 := 26#32
  let v1958 : BitVec 32 := Scalar.addi v2 c26_i32_1695
  let c32_i32_1696 : BitVec 32 := 32#32
  let v1959 : BitVec 32 := Scalar.remsi v1958 c32_i32_1696
  let c1_i32_1701 : BitVec 32 := 1#32
  let v1962 : BitVec 32 := Scalar.muli v1959 c1_i32_1701
  let v1963 : BitVec 32 := Scalar.addi c0_i32_1702 v1962
  v1963.toNat
def k0_dev89 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1705 : BitVec 32 := 27#32
  let v1970 : BitVec 32 := Scalar.addi v2 c27_i32_1705
  let c32_i32_1706 : BitVec 32 := 32#32
  let v1971 : BitVec 32 := Scalar.remsi v1970 c32_i32_1706
  let c1_i32_1711 : BitVec 32 := 1#32
  let v1974 : BitVec 32 := Scalar.muli v1971 c1_i32_1711
  let v1975 : BitVec 32 := Scalar.addi c0_i32_1712 v1974
  v1975.toNat
def k0_dev90 (d0 : Dev nD) : Nat :=
  let c0_i32_1722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1715 : BitVec 32 := 28#32
  let v1982 : BitVec 32 := Scalar.addi v2 c28_i32_1715
  let c32_i32_1716 : BitVec 32 := 32#32
  let v1983 : BitVec 32 := Scalar.remsi v1982 c32_i32_1716
  let c1_i32_1721 : BitVec 32 := 1#32
  let v1986 : BitVec 32 := Scalar.muli v1983 c1_i32_1721
  let v1987 : BitVec 32 := Scalar.addi c0_i32_1722 v1986
  v1987.toNat
def k0_dev91 (d0 : Dev nD) : Nat :=
  let c0_i32_1732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1725 : BitVec 32 := 29#32
  let v1994 : BitVec 32 := Scalar.addi v2 c29_i32_1725
  let c32_i32_1726 : BitVec 32 := 32#32
  let v1995 : BitVec 32 := Scalar.remsi v1994 c32_i32_1726
  let c1_i32_1731 : BitVec 32 := 1#32
  let v1998 : BitVec 32 := Scalar.muli v1995 c1_i32_1731
  let v1999 : BitVec 32 := Scalar.addi c0_i32_1732 v1998
  v1999.toNat
def k0_dev92 (d0 : Dev nD) : Nat :=
  let c0_i32_1742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1735 : BitVec 32 := 30#32
  let v2006 : BitVec 32 := Scalar.addi v2 c30_i32_1735
  let c32_i32_1736 : BitVec 32 := 32#32
  let v2007 : BitVec 32 := Scalar.remsi v2006 c32_i32_1736
  let c1_i32_1741 : BitVec 32 := 1#32
  let v2010 : BitVec 32 := Scalar.muli v2007 c1_i32_1741
  let v2011 : BitVec 32 := Scalar.addi c0_i32_1742 v2010
  v2011.toNat
def k0_dev93 (d0 : Dev nD) : Nat :=
  let c0_i32_1752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1745 : BitVec 32 := 31#32
  let v2018 : BitVec 32 := Scalar.addi v2 c31_i32_1745
  let c32_i32_1746 : BitVec 32 := 32#32
  let v2019 : BitVec 32 := Scalar.remsi v2018 c32_i32_1746
  let c1_i32_1751 : BitVec 32 := 1#32
  let v2022 : BitVec 32 := Scalar.muli v2019 c1_i32_1751
  let v2023 : BitVec 32 := Scalar.addi c0_i32_1752 v2022
  v2023.toNat
abbrev stage0_0 : Fin 1 → Memref sig .tc .vmem S2x512x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x768 : Shape := ⟨3, ![2, 512, 768]⟩
abbrev S768x16384 : Shape := ⟨2, ![768, 16384]⟩
abbrev S2x512x256x64 : Shape := ⟨4, ![2, 512, 256, 64]⟩
abbrev S16384x768 : Shape := ⟨2, ![16384, 768]⟩
abbrev S2x512x16384 : Shape := ⟨3, ![2, 512, 16384]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x256x512x512 : Shape := ⟨4, ![2, 256, 512, 512]⟩
abbrev S1x1x512x512 : Shape := ⟨4, ![1, 1, 512, 512]⟩
abbrev S2x256x512 : Shape := ⟨3, ![2, 256, 512]⟩
abbrev S2x256x512x1 : Shape := ⟨4, ![2, 256, 512, 1]⟩
abbrev S1x1x512x1 : Shape := ⟨4, ![1, 1, 512, 1]⟩
abbrev S2x256x64x512 : Shape := ⟨4, ![2, 256, 64, 512]⟩

abbrev nBuf : Space → Nat
  | .hbm => 57
  | .vmem => 0
  | .smem => 0
  | _ => 0

abbrev bufTy : (tb : Table) → Fin (tcTables nBuf tb) → BufTy
  | .hbm, ⟨0, _⟩ => ⟨S2x512x768, .f32⟩
  | .hbm, ⟨1, _⟩ => ⟨S768x16384, .f32⟩
  | .hbm, ⟨2, _⟩ => ⟨S2x512x256x64, .f32⟩
  | .hbm, ⟨3, _⟩ => ⟨S2x512x256x64, .f32⟩
  | .hbm, ⟨4, _⟩ => ⟨S16384x768, .f32⟩
  | .hbm, ⟨5, _⟩ => ⟨S2x512x16384, .f32⟩
  | .hbm, ⟨6, _⟩ => ⟨S2x512x256x64, .f32⟩
  | .hbm, ⟨7, _⟩ => ⟨S512, .i32⟩
  | .hbm, ⟨8, _⟩ => ⟨S512x1, .i32⟩
  | .hbm, ⟨9, _⟩ => ⟨S512, .i32⟩
  | .hbm, ⟨10, _⟩ => ⟨S1x512, .i32⟩
  | .hbm, ⟨11, _⟩ => ⟨S512x512, .i32⟩
  | .hbm, ⟨12, _⟩ => ⟨S512x512, .i32⟩
  | .hbm, ⟨13, _⟩ => ⟨S512x512, .i32⟩
  | .hbm, ⟨14, _⟩ => ⟨S512x512, .i32⟩
  | .hbm, ⟨15, _⟩ => ⟨S_, .i32⟩
  | .hbm, ⟨16, _⟩ => ⟨S512x512, .i32⟩
  | .hbm, ⟨17, _⟩ => ⟨S512x512, .i1⟩
  | .hbm, ⟨18, _⟩ => ⟨S2x256x512x512, .f32⟩
  | .hbm, ⟨19, _⟩ => ⟨S_, .f32⟩
  | .hbm, ⟨20, _⟩ => ⟨S2x256x512x512, .f32⟩
  | .hbm, ⟨21, _⟩ => ⟨S2x256x512x512, .f32⟩
  | .hbm, ⟨22, _⟩ => ⟨S1x1x512x512, .i1⟩
  | .hbm, ⟨23, _⟩ => ⟨S_, .f32⟩
  | .hbm, ⟨24, _⟩ => ⟨S_, .f32⟩
  | .hbm, ⟨25, _⟩ => ⟨S2x256x512x512, .i1⟩
  | .hbm, ⟨26, _⟩ => ⟨S2x256x512x512, .f32⟩
  | .hbm, ⟨27, _⟩ => ⟨S2x256x512x512, .f32⟩
  | .hbm, ⟨28, _⟩ => ⟨S_, .f32⟩
  | .hbm, ⟨29, _⟩ => ⟨S2x256x512, .f32⟩
  | .hbm, ⟨30, _⟩ => ⟨S2x256x512x1, .f32⟩
  | .hbm, ⟨31, _⟩ => ⟨S2x256x512x512, .f32⟩
  | .hbm, ⟨32, _⟩ => ⟨S2x256x512x512, .f32⟩
  | .hbm, ⟨33, _⟩ => ⟨S2x256x512x512, .f32⟩
  | .hbm, ⟨34, _⟩ => ⟨S_, .i1⟩
  | .hbm, ⟨35, _⟩ => ⟨S512, .i1⟩
  | .hbm, ⟨36, _⟩ => ⟨S1x1x512x1, .i1⟩
  | .hbm, ⟨37, _⟩ => ⟨S_, .f32⟩
  | .hbm, ⟨38, _⟩ => ⟨S2x256x512, .f32⟩
  | .hbm, ⟨39, _⟩ => ⟨S2x256x512x1, .f32⟩
  | .hbm, ⟨40, _⟩ => ⟨S_, .f32⟩
  | .hbm, ⟨41, _⟩ => ⟨S_, .f32⟩
  | .hbm, ⟨42, _⟩ => ⟨S2x256x512x1, .i1⟩
  | .hbm, ⟨43, _⟩ => ⟨S2x256x512x1, .f32⟩
  | .hbm, ⟨44, _⟩ => ⟨S2x256x512x1, .f32⟩
  | .hbm, ⟨45, _⟩ => ⟨S2x256x512x512, .f32⟩
  | .hbm, ⟨46, _⟩ => ⟨S2x256x512x512, .f32⟩
  | .hbm, ⟨47, _⟩ => ⟨S1x1x512x1, .i1⟩
  | .hbm, ⟨48, _⟩ => ⟨S_, .f32⟩
  | .hbm, ⟨49, _⟩ => ⟨S_, .f32⟩
  | .hbm, ⟨50, _⟩ => ⟨S2x256x512x512, .i1⟩
  | .hbm, ⟨51, _⟩ => ⟨S2x256x512x512, .f32⟩
  | .hbm, ⟨52, _⟩ => ⟨S2x256x512x512, .f32⟩
  | .hbm, ⟨53, _⟩ => ⟨S2x256x64x512, .f32⟩
  | .hbm, ⟨54, _⟩ => ⟨S2x512x256x64, .f32⟩
  | .hbm, ⟨55, _⟩ => ⟨S2x512x16384, .f32⟩
  | .hbm, ⟨56, _⟩ => ⟨S2x512x768, .f32⟩
  | _, _ => ⟨S2x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Contents.lean ====
/-
  What every buffer of the kernel holds, as functions of the devices' inputs, at any float values:
  the per-device partial products, what the reduce-scatter lands, the reduced rows, and the result.
-/
module

public import proofs.«01_k».proof.Proof.Gen.KernelIdeal.Frame
public import proofs.«01_k».proof.Proof.Gen.KernelIdeal.Skeleton
public import Idealize.ShloMosaic.Lib.ValueIdxCore

@[expose] public section

set_option maxRecDepth 16384

noncomputable section

namespace Cert.KernelIdeal.Talk

open Idealize.ShloMosaic Idealize.ShloMosaic.TcCoe
open Idealize.ShloMosaic.ValueIdx (ix2 ix3)
open Cert.KernelIdeal.Gen

variable {F : FTy → Type} [FloatOps F]

/-- What the devices' inputs of the kernel call hold: the activations, keys and values (head-major), and the two weights. -/
structure Ins (F : FTy → Type) where
  x : Dev nD → Vec F S2x512x768 .f32
  k : Dev nD → Vec F S2x8x512x64 .f32
  v : Dev nD → Vec F S2x8x512x64 .f32
  wq : Dev nD → Vec F S768x16384 .f32
  wo : Dev nD → Vec F S16384x768 .f32

/-- The device `j + 1` places after `c` on the ring of 32. -/
def nxt (c : Dev nD) (j : ℕ) : Dev nD := ⟨(c.val + (j + 1)) % 32, Nat.mod_lt _ (by decide)⟩

/-! ## The attention of one head -/

/-- One head: the masked, scaled scores of the queries' 64 columns from `o`, their softmax, and its product with the values. -/
def headAt (mask : IVec S512x512 1) (q : FVec F S512x512 .f32) (o : ℕ) (ho : S512x512.Slices ![0, o] S512x64)
    (kb vb : Vec F S1x1x512x64 .f32) : FVec F S512x64 .f32 :=
  have s : FVec F S512x512 .f32 := select mask
    (mulf (matmul dot_S512x64_S512x64_S512x512_1_1_0_0_n_n none
        (truncf .bf16 (extractStridedSlice S512x64 ![0, o] q ho) bitsLt_bf16_f32)
        (truncf .bf16 (shapeCast S512x64 kb shapeCasts_S1x1x512x64_S512x64) bitsLt_bf16_f32)
        (constant S512x512 .f32 0x00000000#32))
      (broadcast S512x512 (Scalar.ofBits .f32 0x3E000000#32)))
    (broadcast S512x512 (Scalar.ofBits .f32 0xCE6E6B28#32))
  have e : FVec F S512x512 .f32 := exp (subf s (broadcastTo S512x512
    (shapeCast S512x1 (multiReduction .maximumf [1] S512 s 0xFF800000#32 reduces_S512x512_S512 (.inl rfl) rfl) shapeCasts_S512_S512x1)
    broadcasts_S512x1_S512x512))
  have p : FVec F S512x512 .f32 := divf e (broadcastTo S512x512
    (shapeCast S512x1 (multiReduction .add [1] S512 e 0x00000000#32 reduces_S512x512_S512 (.inl rfl) rfl) shapeCasts_S512_S512x1)
    broadcasts_S512x1_S512x512)
  matmul dot_S512x512_S512x64_S512x64_1_0_0_1_n_n none (truncf .bf16 p bitsLt_bf16_f32)
    (truncf .bf16 (shapeCast S512x64 vb shapeCasts_S1x1x512x64_S512x64) bitsLt_bf16_f32)
    (constant S512x64 .f32 0x00000000#32)

theorem slices_head (h : Fin 8) : S512x512.Slices ![0, 64 * h.val] S512x64 := by
  revert h; decide +kernel

theorem inb_head (b : Fin 2) (h : Fin 8) : ∀ a, (![b.val, h.val, 0, 0] : Fin 4 → ℕ) a + S1x1x512x64.size a ≤ S2x8x512x64.size a := by
  revert b h; decide +kernel

theorem inb_batch (b : Fin 2) : ∀ a, (![b.val, 0, 0] : Fin 3 → ℕ) a + S1x512x768.size a ≤ S2x512x768.size a := by
  revert b; decide +kernel

theorem inb_slot (k : Fin 31) : ∀ a, (![k.val, 0, 0] : Fin 3 → ℕ) a + S1x32x768.size a ≤ S31x32x768.size a := by
  revert k; decide +kernel

variable (I : Ins F)

/-- The activations of batch row `b`, as loaded. -/
def xB (c : Dev nD) (b : Fin 2) : Vec F S1x512x768 .f32 :=
  ((Memref.whole cc0_stg0_0 : Memref sig .tc .vmem S2x512x768 .f32).access (Rect.unit (s := S2x512x768) ![b.val, 0, 0] S1x512x768.size (inb_batch b))).read (Elt F) (I.x c)

/-- The keys of batch row `b`, head `h`, as loaded. -/
def kB (c : Dev nD) (b : Fin 2) (h : Fin 8) : Vec F S1x1x512x64 .f32 :=
  ((Memref.whole cc0_stg1_0 : Memref sig .tc .vmem S2x8x512x64 .f32).access (Rect.unit (s := S2x8x512x64) ![b.val, h.val, 0, 0] S1x1x512x64.size (inb_head b h))).read (Elt F) (I.k c)

/-- The values of batch row `b`, head `h`, as loaded. -/
def vB (c : Dev nD) (b : Fin 2) (h : Fin 8) : Vec F S1x1x512x64 .f32 :=
  ((Memref.whole cc0_stg2_0 : Memref sig .tc .vmem S2x8x512x64 .f32).access (Rect.unit (s := S2x8x512x64) ![b.val, h.val, 0, 0] S1x1x512x64.size (inb_head b h))).read (Elt F) (I.v c)

/-- The device's columns of the query weights, as copied into its scratch. -/
def wqS (c : Dev nD) : Vec F S768x512 .f32 :=
  ((Memref.whole main_arg1 : Memref sig .tc .hbm S768x16384 .f32).slice (Rect.unit (s := S768x16384) (k0_off1 c) S768x512.size (k0_off1_inb c)) (fun _ => rfl)).view.read (Elt F) (I.wq c)

/-- The device's rows of the output weights, as copied into its scratch. -/
def woS (c : Dev nD) : Vec F S512x768 .f32 :=
  ((Memref.whole main_arg4 : Memref sig .tc .hbm S16384x768 .f32).slice (Rect.unit (s := S16384x768) (k0_off2 c) S512x768.size (k0_off2_inb c)) (fun _ => rfl)).view.read (Elt F) (I.wo c)

/-- The two weights as loaded from scratch. -/
def wqL (c : Dev nD) : Vec F S768x512 .f32 :=
  ((Memref.whole cc0_scratch0 : Memref sig .tc .vmem S768x512 .f32).access (Rect.unit (s := S768x512) ![0, 0] S768x512.size inb_S768x512_S768x512_0_0)).read (Elt F) (wqS I c)
def woL (c : Dev nD) : Vec F S512x768 .f32 :=
  ((Memref.whole cc0_scratch1 : Memref sig .tc .vmem S512x768 .f32).access (Rect.unit (s := S512x768) ![0, 0] S512x768.size inb_S512x768_S512x768_0_0)).read (Elt F) (woS I c)

/-- The queries of batch row `b`. -/
def qB (c : Dev nD) (b : Fin 2) : FVec F S512x512 .f32 := k0_pay4 (k0_pay2 (wqL I c)) (xB I c b)

/-- Head `h` of batch row `b` on device `c`. -/
def headB (c : Dev nD) (b : Fin 2) (h : Fin 8) : FVec F S512x64 .f32 :=
  headAt k0_pay1 (qB I c b) (64 * h.val) (slices_head h) (kB I c b h) (vB I c b h)

/-- The heads side by side. -/
def ctxB (c : Dev nD) (b : Fin 2) : FVec F S512x512 .f32 :=
  concatenate S512x512 1 [⟨S512x64, headB I c b 0⟩, ⟨S512x64, headB I c b 1⟩, ⟨S512x64, headB I c b 2⟩, ⟨S512x64, headB I c b 3⟩,
    ⟨S512x64, headB I c b 4⟩, ⟨S512x64, headB I c b 5⟩, ⟨S512x64, headB I c b 6⟩, ⟨S512x64, headB I c b 7⟩]
    concatenates_S512x64_S512x64_S512x64_S512x64_S512x64_S512x64_S512x64_S512x64_S512x512_d1

/-- The device's partial product of batch row `b`. -/
def partB (c : Dev nD) (b : Fin 2) : FVec F S512x768 .bf16 :=
  shapeCast S512x768 (truncf .bf16 (matmul dot_S512x512_S512x768_S512x768_1_0_0_1_n_n none
      (truncf .bf16 (ctxB I c b) bitsLt_bf16_f32) (k0_pay3 (woL I c)) (constant S512x768 .f32 0x00000000#32)) bitsLt_bf16_f32)
    shapeCasts_S512x768_S512x768

/-- The partial products of device `c`, the two batch rows one above the other. -/
def pV (c : Dev nD) : Vec F S1024x768 .bf16 := fun i =>
  if h : (i 0).val < 512 then partB I c 0 (ix2 ⟨(i 0).val, h⟩ (i 1))
  else partB I c 1 (ix2 ⟨(i 0).val - 512, by have := (i 0).isLt; change (i 0).val < 1024 at this; omega⟩ (i 1))

/-! ## The kernel's own chains of values are these -/

/-- The first store of the partial products. -/
theorem part0_eq (c : Dev nD) :
    k0_pay21 (k0_pay3 (woL I c))
      (k0_pay5 k0_pay1 (k0_pay2 (wqL I c)) (xB I c 0) (kB I c 0 0) (vB I c 0 0))
      (k0_pay9 k0_pay1 (k0_pay6 (k0_pay2 (wqL I c)) (xB I c 0)) (k0_pay7 (kB I c 0 1)) (k0_pay8 (vB I c 0 1)))
      (k0_pay10 k0_pay1 (qB I c 0) (kB I c 0 2) (vB I c 0 2))
      (k0_pay11 k0_pay1 (qB I c 0) (kB I c 0 3) (vB I c 0 3))
      (k0_pay14 k0_pay1 (k0_pay12 (vB I c 0 4)) (k0_pay13 (qB I c 0) (kB I c 0 4)) (Scalar.ofBits .f32 0xCE6E6B28#32))
      (k0_pay15 k0_pay1 (qB I c 0) (kB I c 0 5) (vB I c 0 5))
      (k0_pay17 k0_pay1 (k0_pay16 (qB I c 0)) (kB I c 0 6) (vB I c 0 6))
      (k0_pay18 (vB I c 0 7)) (k0_pay19 k0_pay1 (qB I c 0) (kB I c 0 7)) (k0_pay20 k0_pay1 (qB I c 0) (kB I c 0 7))
      = partB I c 0 := rfl

/-- The second store of the partial products. -/
theorem part1_eq (c : Dev nD) :
    k0_pay40 k0_pay1 (k0_pay3 (woL I c))
      (k0_pay25 (k0_pay23 (vB I c 1 0)) (k0_pay24 k0_pay1 (k0_pay2 (wqL I c)) (xB I c 1) (kB I c 1 0)))
      (k0_pay26 k0_pay1 (qB I c 1) (kB I c 1 1) (vB I c 1 1))
      (k0_pay30 k0_pay1 (k0_pay27 (qB I c 1)) (k0_pay28 (kB I c 1 2)) (k0_pay29 (vB I c 1 2)))
      (k0_pay33 (k0_pay31 (vB I c 1 3)) (k0_pay32 k0_pay1 (qB I c 1) (kB I c 1 3)) (constant S512x64 .f32 0x00000000#32))
      (k0_pay34 k0_pay1 (qB I c 1) (kB I c 1 4) (vB I c 1 4))
      (k0_pay37 k0_pay1 (k0_pay35 (vB I c 1 5)) (k0_pay36 (qB I c 1) (kB I c 1 5)))
      (k0_pay38 k0_pay1 (qB I c 1) (kB I c 1 6) (vB I c 1 6))
      (k0_pay39 (qB I c 1)) (kB I c 1 7) (vB I c 1 7)
      = partB I c 1 := rfl

/-! ## The reduce-scatter -/

theorem row_lt (d : Dev nD) (r : Fin 32) : 32 * d.val + r.val < 1024 := by
  have h1 : d.val < 32 := d.isLt
  have h2 := r.isLt
  omega

/-- What device `c`'s receive slots hold once landed: slot `k` the rows for `c` of the partial products of device `c + k + 1`. -/
def rV (c : Dev nD) : Vec F S31x32x768 .bf16 := fun i =>
  pV I (nxt c (i 0).val) (ix2 ⟨32 * c.val + (i 1).val, row_lt c (i 1)⟩ (i 2))

/-- The rows for `c` of its own partial products, as loaded. -/
def ownL (c : Dev nD) : Vec F S32x768 .bf16 :=
  ((Memref.whole cc0_scratch2 : Memref sig .tc .vmem S1024x768 .bf16).access (Rect.unit (s := S1024x768) (k0_off3 c) S32x768.size (k0_off3_inb c))).read (Elt F) (pV I c)

/-- Receive slot `k`, as loaded. -/
def slotL (c : Dev nD) (k : Fin 31) : Vec F S1x32x768 .bf16 :=
  ((Memref.whole cc0_scratch4 : Memref sig .tc .vmem S31x32x768 .bf16).access (Rect.unit (s := S31x32x768) ![k.val, 0, 0] S1x32x768.size (inb_slot k))).read (Elt F) (rV I c)

/-- One more device's rows added. -/
def addSlot (acc : FVec F S32x768 .f32) (s : Vec F S1x32x768 .bf16) : FVec F S32x768 .f32 :=
  addf acc (extf .f32 (shapeCast S32x768 s shapeCasts_S1x32x768_S32x768) bitsLt_bf16_f32)

/-- The rows for `c` summed over its own products and its first `n` receive slots from the last. -/
def accN (c : Dev nD) : ℕ → FVec F S32x768 .f32
  | 0 => k0_pay41 (ownL I c)
  | n + 1 => addSlot (accN c n) (slotL I c ⟨30 - n, by omega⟩)

/-- The rows for `c`, summed over all devices. -/
def accV (c : Dev nD) : FVec F S32x768 .f32 := accN I c 31

/-- The same rows as the all-gather sends them. -/
def gC (c : Dev nD) : FVec F S32x768 .bf16 := k0_pay58 (k0_pay57 (accV I c))

/-! ## The all-gather and the result -/

/-- The device whose rows row `i` belongs to. -/
def rowDev (i : S1024x768.Idx) : Dev nD :=
  ⟨(i 0).val / 32, by have := (i 0).isLt; change (i 0).val < 1024 at this; show (i 0).val / 32 < 32; omega⟩

/-- Index `i` within its device's rows. -/
def rowIx (i : S1024x768.Idx) : S32x768.Idx := ix2 ⟨(i 0).val % 32, Nat.mod_lt _ (by decide)⟩ (i 1)

/-- The gathered rows, all devices'. -/
def gV : Vec F S1024x768 .bf16 := fun i => gC I (rowDev i) (rowIx i)

/-- The result on device `c`: its own rows unrounded, the others' as gathered. -/
def outV (c : Dev nD) : Vec F S1024x768 .f32 := fun i =>
  if rowDev i = c then accV I c (rowIx i) else (extf .f32 (gC I (rowDev i)) bitsLt_bf16_f32 : FVec F S32x768 .f32) (rowIx i)

end Cert.KernelIdeal.Talk
-- ==== Proof.Proto.lean ====
/-
  The protocol: the cells, what each transfer and signal hands over, the levels of the waits,
  and what each core owes.
-/
module

public import proofs.«01_k».proof.Proof.Contents
public import Idealize.ShloMosaic.Lib.Rounds
public import Idealize.ShloMosaic.Lib.ShareLeaves
public import Idealize.ShloMosaic.Lib.Pipeline.RegionTalk

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

abbrev UB := URounds (GSem nD τ sig) (Fin 31)
abbrev UU := UR sig nD τ × UB
local notation "𝕄" => MT nD τ sig Unit (Elt F) ℕ UU ℕ
abbrev EP : Emb (UR sig nD τ) 𝕄 := embL
abbrev ER : Emb UB 𝕄 := embR
abbrev 𝒱₀ : Variants := Variants.none

/-! ## The ring -/

theorem nxt_val (c : Dev nD) (j : ℕ) : (nxt c j).val = (c.val + (j + 1)) % 32 := rfl

theorem nxt_back (c : Dev nD) (j : ℕ) (hj : j < 31) : nxt (nxt c j) (30 - j) = c := by
  apply Fin.ext
  have h : c.val < 32 := c.isLt
  rw [nxt_val, nxt_val]
  omega

theorem nxt_fwd (c : Dev nD) (j : ℕ) (hj : j < 31) : nxt (nxt c (30 - j)) j = c := by
  apply Fin.ext
  have h : c.val < 32 := c.isLt
  rw [nxt_val, nxt_val]
  omega

theorem nxt_inj (c : Dev nD) {i j : ℕ} (hi : i < 31) (hj : j < 31) (h : nxt c i = nxt c j) : i = j := by
  have h' := congrArg Fin.val h
  have hc : c.val < 32 := c.isLt
  rw [nxt_val, nxt_val] at h'
  omega

theorem nxt_ne (c : Dev nD) {i : ℕ} (hi : i < 31) : nxt c i ≠ c := by
  intro h
  have h' := congrArg Fin.val h
  have hc : c.val < 32 := c.isLt
  rw [nxt_val] at h'
  omega

/-! ## The semaphores and their cells -/

/-- The barrier semaphore. -/
abbrev barS : Sem sig := sig.barrier 0 rfl
abbrev barCell (c : Dev nD) : GSem nD τ sig := ((c : Thread nD τ), .reg barS)
/-- DMA semaphore number `k`. -/
abbrev dS (k : ℕ) (h : k < 130) : DmaSem sig := (⟨k, h⟩ : Fin 130)
abbrev dCell (c : Dev nD) (k : ℕ) (h : k < 130) : GSem nD τ sig := ((c : Thread nD τ), .dma (dS k h))

theorem lt6 {j : ℕ} (h : j < 31) : 6 + j < 130 := by omega
theorem lt37 {j : ℕ} (h : j < 31) : 37 + j < 130 := by omega
theorem lt68 {j : ℕ} (h : j < 31) : 68 + j < 130 := by omega
theorem lt99 {j : ℕ} (h : j < 31) : 99 + j < 130 := by omega
theorem lt37r (j : ℕ) : 37 + (30 - j) < 130 := by omega
theorem lt99r (j : ℕ) : 99 + (30 - j) < 130 := by omega

/-! ## The buffers, in chunks -/

/-- The 32 rows of device `d` in a buffer of all rows. -/
def ck (d : Dev nD) : Finset S1024x768.Idx := Finset.univ.filter fun i => rowDev i = d
/-- Receive slot `k`. -/
def sk (k : ℕ) : Finset S31x32x768.Idx := Finset.univ.filter fun i => (i 0).val = k

abbrev xW : Memref sig .tc .vmem S2x512x768 .f32 := Memref.whole cc0_stg0_0
abbrev kW : Memref sig .tc .vmem S2x8x512x64 .f32 := Memref.whole cc0_stg1_0
abbrev vW : Memref sig .tc .vmem S2x8x512x64 .f32 := Memref.whole cc0_stg2_0
abbrev oW : Memref sig .tc .vmem S1024x768 .f32 := Memref.whole cc0_stg3_0
abbrev aW : Memref sig .tc .vmem S768x512 .f32 := Memref.whole cc0_scratch0
abbrev bW : Memref sig .tc .vmem S512x768 .f32 := Memref.whole cc0_scratch1
abbrev pW : Memref sig .tc .vmem S1024x768 .bf16 := Memref.whole cc0_scratch2
abbrev gW : Memref sig .tc .vmem S1024x768 .bf16 := Memref.whole cc0_scratch3
abbrev rW : Memref sig .tc .vmem S31x32x768 .bf16 := Memref.whole cc0_scratch4
abbrev qW : Memref sig .tc .hbm S768x16384 .f32 := Memref.whole main_arg1
abbrev wW : Memref sig .tc .hbm S16384x768 .f32 := Memref.whole main_arg4

/-- The rows of device `c + j + 1` in the partial products: the source of send `j`. -/
abbrev pM (c : Dev nD) (j : Fin 31) : Memref sig .tc .vmem S32x768 .bf16 :=
  pW.slice (Rect.unit (s := S1024x768) (k0_off4 c (BitVec.ofNat 32 (1 + j.val))) S32x768.size (k0_off4_inb c j)) (fun _ => rfl)
/-- Receive slot `k`. -/
abbrev sM (k : Fin 31) : Memref sig .tc .vmem S32x768 .bf16 :=
  (rW.slice (Rect.unit (s := S31x32x768) ![k.val, 0, 0] S1x32x768.size (inb_slot k)) (fun _ => rfl)).squeeze S32x768 squeezes_S1x32x768_S32x768
/-- The device's own rows of the gathered buffer. -/
abbrev gM (c : Dev nD) : Memref sig .tc .vmem S32x768 .bf16 :=
  gW.slice (Rect.unit (s := S1024x768) (k0_off5 c) S32x768.size (k0_off5_inb c)) (fun _ => rfl)
/-- The device's columns of the query weights and rows of the output weights, in HBM. -/
abbrev qM (c : Dev nD) : Memref sig .tc .hbm S768x512 .f32 :=
  qW.slice (Rect.unit (s := S768x16384) (k0_off1 c) S768x512.size (k0_off1_inb c)) (fun _ => rfl)
abbrev wM (c : Dev nD) : Memref sig .tc .hbm S512x768 .f32 :=
  wW.slice (Rect.unit (s := S16384x768) (k0_off2 c) S512x768.size (k0_off2_inb c)) (fun _ => rfl)

/-- Points-tos of the chunked buffers. -/
def pPt (c : Dev nD) (S : Finset S1024x768.Idx) (f : Vec F S1024x768 .bf16) : sProp 𝕄 :=
  pW.view.loc (c : Thread nD τ) ↦[S]{fullShare} f
def gPt (c : Dev nD) (S : Finset S1024x768.Idx) (q : PosShare TreeShare) (f : Vec F S1024x768 .bf16) : sProp 𝕄 :=
  gW.view.loc (c : Thread nD τ) ↦[S]{q} f
def rPt (c : Dev nD) (S : Finset S31x32x768.Idx) (f : Vec F S31x32x768 .bf16) : sProp 𝕄 :=
  rW.view.loc (c : Thread nD τ) ↦[S]{fullShare} f
def oPt (c : Dev nD) (f : Vec F S1024x768 .f32) : sProp 𝕄 :=
  oW.view.loc (c : Thread nD τ) ↦[Finset.univ]{fullShare} f
def aPt (c : Dev nD) (f : Vec F S768x512 .f32) : sProp 𝕄 :=
  aW.view.loc (c : Thread nD τ) ↦[Finset.univ]{fullShare} f
def bPt (c : Dev nD) (f : Vec F S512x768 .f32) : sProp 𝕄 :=
  bW.view.loc (c : Thread nD τ) ↦[Finset.univ]{fullShare} f
def qPt (c : Dev nD) (S : Finset S768x16384.Idx) (f : Vec F S768x16384 .f32) : sProp 𝕄 :=
  qW.view.loc (c : Thread nD τ) ↦[S]{fullShare} f
def wPt (c : Dev nD) (S : Finset S16384x768.Idx) (f : Vec F S16384x768 .f32) : sProp 𝕄 :=
  wW.view.loc (c : Thread nD τ) ↦[S]{fullShare} f

/-- Share `i` of the 32 the gathered rows are sent under. -/
def lf (i : ℕ) : PosShare TreeShare := ShareLeaves.leaf 5 fullShare ⟨i % 32, Nat.mod_lt _ (by decide)⟩

/-! ## The schedule -/

/-- A transfer of 32 rows, and of the two weight blocks, in credit. -/
abbrev N : ℕ := (gM 0).view.dmaCredit
abbrev Na : ℕ := aW.view.dmaCredit
abbrev Nb : ℕ := bW.view.dmaCredit
theorem N_pos : 0 < N := View.dmaCredit_pos _ (by decide)
theorem Na_pos : 0 < Na := View.dmaCredit_pos _ (by decide)
theorem Nb_pos : 0 < Nb := View.dmaCredit_pos _ (by decide)

variable (I : Ins F)

/-- What the signal of device `s = c + (30 - j) + 1` hands device `c`: its slot `j`, its rows for `c` of the gathered buffer,
    and that the two receive cells the rows will be announced on are open. -/
def barPay (c : Dev nD) (j : ℕ) : sProp 𝕄 :=
  iprop((∃ f, rPt (nxt c (30 - j)) (sk j) f) ∗ (∃ f, gPt (nxt c (30 - j)) (ck c) fullShare f)
    ∗ (if h : j < 31 then iprop(reached ER (dCell (nxt c (30 - j)) (37 + j) (lt37 h)) 0 ∗ reached ER (dCell (nxt c (30 - j)) (99 + j) (lt99 h)) 0) else iprop(emp)))

/-- What the transfer announced on DMA semaphore `k` of device `c` hands it. -/
def dmaPay (c : Dev nD) (k : ℕ) : sProp 𝕄 :=
  if k < 5 then iprop(aPt c (wqS I c) ∗ qPt c (qM c).view.set (I.wq c))
  else if k < 6 then iprop(bPt c (woS I c) ∗ wPt c (wM c).view.set (I.wo c))
  else if k < 37 then pPt c (ck (nxt c (k - 6))) (pV I c)
  else if k < 68 then rPt c (sk (k - 37)) (rV I c)
  else if k < 99 then gPt c (ck c) (lf (k - 68)) (gV I)
  else gPt c (ck (nxt c (k - 99))) fullShare (gV I)

/-- One round on every cell: 31 signals on a barrier cell, one transfer on each of the kernel's DMA cells. -/
def sched : Rounds.Schedule (GSem nD τ sig) (Fin 31) 𝕄 where
  duties g r := if r = 0 ∧ g.1.2 = .tc then (match g.2 with
    | .reg _ => Finset.univ
    | .dma k => if 4 ≤ (show Fin 130 from k).val then {0} else ∅) else ∅
  unitless _ := False
  amount g _ _ := match g.2 with
    | .reg _ => 1
    | .dma k => if (show Fin 130 from k).val < 5 then Na else if (show Fin 130 from k).val < 6 then Nb else N
  payload g _ d := match g.2 with
    | .reg _ => barPay g.1.1 d.val
    | .dma k => dmaPay I g.1.1 (show Fin 130 from k).val
  amount_pos g _ _ _ := by
    rcases g with ⟨t, sm | sm⟩
    · exact Nat.one_pos
    · show 0 < if (show Fin 130 from sm).val < 5 then Na else if (show Fin 130 from sm).val < 6 then Nb else N
      (repeat' split)
      · exact Na_pos
      · exact Nb_pos
      · exact N_pos

instance sched_payload_storable (g : GSem nD τ sig) (r : ℕ) (d : Fin 31) :
    BI.Storable (upEmb : UEmb _ 𝕄) ((sched I).payload g r d) := by
  rcases g with ⟨t, sm | sm⟩
  · show BI.Storable upEmb (barPay t.1 d.val)
    unfold barPay rPt gPt
    rw [dif_pos d.isLt]
    infer_instance
  · show BI.Storable upEmb (dmaPay I t.1 (show Fin 130 from sm).val)
    unfold dmaPay rPt gPt pPt aPt bPt qPt wPt
    (repeat' split) <;> infer_instance

theorem duties_bar (c : Dev nD) : (sched I).duties (barCell c) 0 = Finset.univ := by
  dsimp only [sched]; exact if_pos ⟨rfl, rfl⟩
theorem duties_dma (c : Dev nD) (k : ℕ) (h : k < 130) (h4 : 4 ≤ k) : (sched I).duties (dCell c k h) 0 = {0} := by
  dsimp only [sched]; rw [if_pos ⟨rfl, rfl⟩]; exact if_pos h4
theorem duties_later (g : GSem nD τ sig) : ∀ r, 1 ≤ r → (sched I).duties g r = ∅ :=
  fun r hr => by dsimp only [sched]; exact if_neg (fun h => by omega)

theorem amount_bar (c : Dev nD) (d : Fin 31) : (sched I).amount (barCell c) 0 d = 1 := rfl
theorem amount_a (c : Dev nD) (d : Fin 31) : (sched I).amount (dCell c 4 (by decide)) 0 d = Na := by
  dsimp only [sched]; exact if_pos (by decide : 4 < 5)
theorem amount_b (c : Dev nD) (d : Fin 31) : (sched I).amount (dCell c 5 (by decide)) 0 d = Nb := by
  dsimp only [sched]; rw [if_neg (by decide : ¬ 5 < 5)]; exact if_pos (by decide : 5 < 6)
theorem amount_dma (c : Dev nD) (k : ℕ) (h : k < 130) (h6 : 6 ≤ k) (d : Fin 31) : (sched I).amount (dCell c k h) 0 d = N := by
  dsimp only [sched]; rw [if_neg (show ¬ k < 5 by omega)]; exact if_neg (show ¬ k < 6 by omega)

theorem expect_bar (c : Dev nD) : (sched I).expect (barCell c) 0 = 31 := by
  unfold Schedule.expect Schedule.amountOf
  rw [duties_bar, Finset.sum_congr rfl fun d _ => amount_bar I c d]
  rfl
theorem expect_a (c : Dev nD) : (sched I).expect (dCell c 4 (by decide)) 0 = Na := by
  unfold Schedule.expect Schedule.amountOf
  rw [duties_dma I c 4 _ (by decide), Finset.sum_singleton, amount_a]
theorem expect_b (c : Dev nD) : (sched I).expect (dCell c 5 (by decide)) 0 = Nb := by
  unfold Schedule.expect Schedule.amountOf
  rw [duties_dma I c 5 _ (by decide), Finset.sum_singleton, amount_b]
theorem expect_dma (c : Dev nD) (k : ℕ) (h : k < 130) (h6 : 6 ≤ k) : (sched I).expect (dCell c k h) 0 = N := by
  unfold Schedule.expect Schedule.amountOf
  rw [duties_dma I c k h (by omega), Finset.sum_singleton, amount_dma I c k h h6]

theorem payload_bar (c : Dev nD) (d : Fin 31) : (sched I).payload (barCell c) 0 d = barPay c d.val := rfl
theorem payload_dma (c : Dev nD) (k : ℕ) (h : k < 130) (d : Fin 31) : (sched I).payload (dCell c k h) 0 d = dmaPay I c k := rfl

theorem rest_bar (c : Dev nD) : bigSep ((sched I).duties (barCell c) 0 \ ∅) (fun d => (sched I).payload (barCell c) 0 d)
    = bigSep Finset.univ fun d : Fin 31 => barPay (F := F) c d.val := by
  rw [Finset.sdiff_empty, duties_bar]; rfl
theorem rest_dma (c : Dev nD) (k : ℕ) (h : k < 130) (h4 : 4 ≤ k) :
    bigSep ((sched I).duties (dCell c k h) 0 \ ∅) (fun d => (sched I).payload (dCell c k h) 0 d) = dmaPay I c k := by
  rw [Finset.sdiff_empty, duties_dma I c k h h4, bigSep_singleton, payload_dma]

theorem dmaPay_a (c : Dev nD) : dmaPay I c 4 = iprop(aPt c (wqS I c) ∗ qPt c (qM c).view.set (I.wq c)) := by
  unfold dmaPay; exact if_pos (by decide)
theorem dmaPay_b (c : Dev nD) : dmaPay I c 5 = iprop(bPt c (woS I c) ∗ wPt c (wM c).view.set (I.wo c)) := by
  unfold dmaPay; rw [if_neg (by decide)]; exact if_pos (by decide)
theorem dmaPay_rsS (c : Dev nD) {j : ℕ} (hj : j < 31) : dmaPay I c (6 + j) = pPt c (ck (nxt c j)) (pV I c) := by
  unfold dmaPay; rw [if_neg (by omega), if_neg (by omega), if_pos (by omega), Nat.add_sub_cancel_left]
theorem dmaPay_rsR (c : Dev nD) {j : ℕ} (hj : j < 31) : dmaPay I c (37 + j) = rPt c (sk j) (rV I c) := by
  unfold dmaPay; rw [if_neg (by omega), if_neg (by omega), if_neg (by omega), if_pos (by omega), Nat.add_sub_cancel_left]
theorem dmaPay_agS (c : Dev nD) {j : ℕ} (hj : j < 31) : dmaPay I c (68 + j) = gPt c (ck c) (lf j) (gV I) := by
  unfold dmaPay; rw [if_neg (by omega), if_neg (by omega), if_neg (by omega), if_neg (by omega), if_pos (by omega), Nat.add_sub_cancel_left]
theorem dmaPay_agR (c : Dev nD) {j : ℕ} (hj : j < 31) : dmaPay I c (99 + j) = gPt c (ck (nxt c j)) fullShare (gV I) := by
  unfold dmaPay; rw [if_neg (by omega), if_neg (by omega), if_neg (by omega), if_neg (by omega), if_neg (by omega), Nat.add_sub_cancel_left]

/-! ## What a core owes; the levels -/

/-- The receive cells' credit that device `c` owes for its sends from `s` on. -/
def oweB (c : Dev nD) (b : ℕ) : CellTallies nD τ sig Unit :=
  ∑ j : Fin 31 with b ≤ j.val, tallyAt (barCell (nxt c j.val)) () 1
def oweR (c : Dev nD) (n : ℕ) : CellTallies nD τ sig Unit :=
  ∑ j : Fin 31 with n ≤ j.val, tallyAt (dCell (nxt c j.val) (37 + (30 - j.val)) (lt37r _)) () N
def oweG (c : Dev nD) (n : ℕ) : CellTallies nD τ sig Unit :=
  ∑ j : Fin 31 with n ≤ j.val, tallyAt (dCell (nxt c j.val) (99 + (30 - j.val)) (lt99r _)) () N
/-- What is left to pay after `b` signals, `s` sends of partial products and `g` sends of gathered rows. -/
def owe (c : Dev nD) (b s g : ℕ) : CellTallies nD τ sig Unit := oweB c b + oweR c s + oweG c g

theorem filter_step (n : ℕ) (hn : n < 31) :
    (Finset.univ.filter fun j : Fin 31 => n ≤ j.val) = insert (⟨n, hn⟩ : Fin 31) (Finset.univ.filter fun j : Fin 31 => n + 1 ≤ j.val) := by
  ext j
  simp only [Finset.mem_filter, Finset.mem_univ, true_and, Finset.mem_insert, Fin.ext_iff]
  omega
theorem not_mem_step (n : ℕ) (hn : n < 31) : (⟨n, hn⟩ : Fin 31) ∉ Finset.univ.filter fun j : Fin 31 => n + 1 ≤ j.val := by
  simp only [Finset.mem_filter, Finset.mem_univ, true_and]
  omega
theorem filter_end : (Finset.univ.filter fun j : Fin 31 => 31 ≤ j.val) = ∅ := by decide

theorem oweB_step (c : Dev nD) (n : ℕ) (hn : n < 31) : oweB c n = oweB c (n + 1) + tallyAt (barCell (nxt c n)) () 1 := by
  unfold oweB; rw [filter_step n hn, Finset.sum_insert (not_mem_step n hn), add_comm]
theorem oweR_step (c : Dev nD) (n : ℕ) (hn : n < 31) :
    oweR c n = oweR c (n + 1) + tallyAt (dCell (nxt c n) (37 + (30 - n)) (lt37r _)) () N := by
  unfold oweR; rw [filter_step n hn, Finset.sum_insert (not_mem_step n hn), add_comm]
theorem oweG_step (c : Dev nD) (n : ℕ) (hn : n < 31) :
    oweG c n = oweG c (n + 1) + tallyAt (dCell (nxt c n) (99 + (30 - n)) (lt99r _)) () N := by
  unfold oweG; rw [filter_step n hn, Finset.sum_insert (not_mem_step n hn), add_comm]

theorem owe_b (c : Dev nD) (n s g : ℕ) (hn : n < 31) : owe c n s g = owe c (n + 1) s g + tallyAt (barCell (nxt c n)) () 1 := by
  unfold owe; rw [oweB_step c n hn, add_right_comm (oweB c (n + 1)), add_right_comm (oweB c (n + 1) + oweR c s)]
theorem owe_s (c : Dev nD) (b n g : ℕ) (hn : n < 31) :
    owe c b n g = owe c b (n + 1) g + tallyAt (dCell (nxt c n) (37 + (30 - n)) (lt37r _)) () N := by
  unfold owe; rw [oweR_step c n hn, ← add_assoc, add_right_comm (oweB c b + oweR c (n + 1))]
theorem owe_g (c : Dev nD) (b s n : ℕ) (hn : n < 31) :
    owe c b s n = owe c b s (n + 1) + tallyAt (dCell (nxt c n) (99 + (30 - n)) (lt99r _)) () N := by
  unfold owe; rw [oweG_step c n hn, ← add_assoc]

theorem owe_end (c : Dev nD) : owe c 31 31 31 = 0 := by
  unfold owe oweB oweR oweG; rw [filter_end, Finset.sum_empty, Finset.sum_empty, Finset.sum_empty, add_zero, add_zero]

def L (g : GSem nD τ sig) : Finset Unit := if g.1.2 = .tc then {()} else ∅
/-- The barrier at 1; the receive cells of the sends in the order they are started; everything else at 0. -/
def lv (g : GSem nD τ sig) (_ : Unit) : ℕ := match g.2 with
  | .reg _ => 1
  | .dma k => if (show Fin 130 from k).val < 37 then 0 else if (show Fin 130 from k).val < 68 then 2 + (67 - (show Fin 130 from k).val)
    else if (show Fin 130 from k).val < 99 then 0 else 100 + (129 - (show Fin 130 from k).val)

theorem L_of_ne (g : GSem nD τ sig) (h : g.1.2 ≠ .tc) : L g = ∅ := if_neg h
theorem L_tc (c : Dev nD) (sm : SemLoc sig) : L ((c : Thread nD τ), sm) = {()} := if_pos rfl

theorem lv_dma (c : Dev nD) (k : ℕ) (h : k < 130) : lv (dCell c k h) () = if k < 37 then 0 else if k < 68 then 2 + (67 - k)
    else if k < 99 then 0 else 100 + (129 - k) := rfl
theorem lv_bar (c : Dev nD) : lv (barCell c) () = 1 := rfl

theorem sum_pos (s : Finset (Fin 31)) (f : Fin 31 → CellTallies nD τ sig Unit) (g : GSem nD τ sig) (u : Unit)
    (h : 0 < (∑ j ∈ s, f j) g u) : ∃ j ∈ s, 0 < f j g u := by
  classical
  induction s using Finset.induction_on with
  | empty => rw [Finset.sum_empty] at h; exact absurd h (Nat.lt_irrefl 0)
  | insert a s ha ih =>
    rw [Finset.sum_insert ha, Pi.add_apply, Finsupp.add_apply] at h
    rcases Nat.add_pos_iff_pos_or_pos.mp h with h | h
    · exact ⟨a, Finset.mem_insert_self _ _, h⟩
    · obtain ⟨j, hj, h'⟩ := ih h
      exact ⟨j, Finset.mem_insert_of_mem hj, h'⟩

theorem tallyAt_pos {g₀ g : GSem nD τ sig} {n : ℕ} {u : Unit} (h : 0 < (tallyAt g₀ () n : CellTallies nD τ sig Unit) g u) : g = g₀ := by
  rw [tallyAt_apply] at h
  split at h
  · next hg => exact hg.1
  · exact absurd h (Nat.lt_irrefl 0)

/-- Which cells a core still owes on. -/
theorem owe_pos (c : Dev nD) (b s n : ℕ) (g : GSem nD τ sig) (u : Unit) (h : 0 < owe c b s n g u) :
    (∃ j : Fin 31, b ≤ j.val ∧ g = barCell (nxt c j.val))
    ∨ (∃ j : Fin 31, s ≤ j.val ∧ g = dCell (nxt c j.val) (37 + (30 - j.val)) (lt37r _))
    ∨ ∃ j : Fin 31, n ≤ j.val ∧ g = dCell (nxt c j.val) (99 + (30 - j.val)) (lt99r _) := by
  unfold owe at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, hj, h'⟩ := sum_pos _ _ g u h
      exact .inl ⟨j, (Finset.mem_filter.mp hj).2, tallyAt_pos h'⟩
    · obtain ⟨j, hj, h'⟩ := sum_pos _ _ g u h
      exact .inr (.inl ⟨j, (Finset.mem_filter.mp hj).2, tallyAt_pos h'⟩)
  · obtain ⟨j, hj, h'⟩ := sum_pos _ _ g u h
    exact .inr (.inr ⟨j, (Finset.mem_filter.mp hj).2, tallyAt_pos h'⟩)

/-- A wait at a level below everything still owed. -/
theorem mayWait (c : Dev nD) (sm : SemLoc sig) (b s n l : ℕ) (hl : lv ((c : Thread nD τ), sm) () ≤ l)
    (h1 : 31 ≤ b ∨ l < 1) (h2 : 31 ≤ s ∨ l < 2 + s) (h3 : 31 ≤ n ∨ l < 100 + n) :
    (levAts L lv : sProp 𝕄) ⊢ MayWait (c : Thread nD τ) sm () (owe c b s n) :=
  MayOwe.of_cut (L := L) (lev := lv) l (fun p hp => by rw [Finset.mem_singleton.mp hp, L_tc]; exact Finset.mem_singleton_self _)
    (fun g u hg => by
      rcases owe_pos c b s n g u hg with ⟨j, -, rfl⟩ | ⟨j, -, rfl⟩ | ⟨j, -, rfl⟩ <;> (rw [L_tc]; exact Finset.mem_singleton_self _))
    (fun p hp => by rw [Finset.mem_singleton.mp hp]; exact hl)
    (fun g u hg => by
      rcases owe_pos c b s n g u hg with ⟨j, hj, rfl⟩ | ⟨j, hj, rfl⟩ | ⟨j, hj, rfl⟩
      · rw [lv_bar]; have := j.isLt; omega
      · have := j.isLt
        rw [lv_dma, if_neg (by omega), if_pos (by omega)]; omega
      · have := j.isLt
        rw [lv_dma, if_neg (by omega), if_neg (by omega), if_neg (by omega)]; omega)

end Cert.KernelIdeal.Talk
-- ==== Proof.Geo.lean ====
/-
  Where the kernel's slices lie in their buffers: the elements each covers, and what is read and
  written through it.
-/
module

public import proofs.«01_k».proof.Proof.Proto
public import Idealize.ShloMosaic.Lib.ValueLayout

@[expose] public section

set_option maxRecDepth 16384

noncomputable section

namespace Cert.KernelIdeal.Talk

open Idealize.ShloMosaic Idealize.ShloMosaic.TcCoe
open Idealize.ShloMosaic.ValueIdx
open Cert.KernelIdeal.Gen

variable {F : FTy → Type} [FloatOps F]

theorem mem_ck {d : Dev nD} {i : S1024x768.Idx} : i ∈ ck d ↔ rowDev i = d := by
  unfold ck; simp only [Finset.mem_filter, Finset.mem_univ, true_and]
theorem mem_sk {k : ℕ} {i : S31x32x768.Idx} : i ∈ sk k ↔ (i 0).val = k := by
  unfold sk; simp only [Finset.mem_filter, Finset.mem_univ, true_and]

theorem rowDev_iff (i : S1024x768.Idx) (d : Dev nD) : rowDev i = d ↔ 32 * d.val ≤ (i 0).val ∧ (i 0).val < 32 * d.val + 32 := by
  rw [Fin.ext_iff]
  show (i 0).val / 32 = d.val ↔ _
  omega

/-- Row `r` of device `d`. -/
def rowAt (d : Dev nD) (x : S32x768.Idx) : S1024x768.Idx := ix2 ⟨32 * d.val + (x 0).val, row_lt d (x 0)⟩ (x 1)

theorem rowDev_rowAt (d : Dev nD) (x : S32x768.Idx) : rowDev (rowAt d x) = d := by
  rw [rowDev_iff]
  have h : (x 0).val < 32 := (x 0).isLt
  show 32 * d.val ≤ 32 * d.val + (x 0).val ∧ 32 * d.val + (x 0).val < 32 * d.val + 32
  omega

theorem rowIx_rowAt (d : Dev nD) (x : S32x768.Idx) : rowIx (rowAt d x) = x := by
  funext a
  match a with
  | 0 =>
    apply Fin.ext
    have h : (x 0).val < 32 := (x 0).isLt
    show (32 * d.val + (x 0).val) % 32 = (x 0).val
    omega
  | 1 => rfl

theorem rowAt_rowIx (i : S1024x768.Idx) : rowAt (rowDev i) (rowIx i) = i := by
  funext a
  match a with
  | 0 =>
    apply Fin.ext
    show 32 * ((i 0).val / 32) + (i 0).val % 32 = (i 0).val
    omega
  | 1 => rfl

/-- A block of 32 rows at `32 d`. -/
theorem rows_set {off : Fin 2 → ℕ} (d : Dev nD) (h : off = ![32 * d.val, 0]) (inb) :
    (Rect.unit (s := S1024x768) off S32x768.size inb).set = ck d := by
  subst h
  ext i
  rw [Rect.mem_set_unit, mem_ck, rowDev_iff, Fin.forall_fin_two]
  have h1 : (i 1).val < 768 := (i 1).isLt
  show (32 * d.val ≤ (i 0).val ∧ (i 0).val < 32 * d.val + 32) ∧ (0 ≤ (i 1).val ∧ (i 1).val < 0 + 768) ↔ _
  omega

theorem rows_emb {off : Fin 2 → ℕ} (d : Dev nD) (h : off = ![32 * d.val, 0]) (inb) (x : S32x768.Idx) :
    (Rect.unit (s := S1024x768) off S32x768.size inb).emb x = rowAt d x := by
  subst h
  funext a
  match a with
  | 0 => apply Fin.ext; show 32 * d.val + 1 * (x 0).val = 32 * d.val + (x 0).val; omega
  | 1 => apply Fin.ext; show 0 + 1 * (x 1).val = (x 1).val; omega

theorem off3 (c : Dev nD) : k0_off3 c = ![32 * c.val, 0] := Gen.k0_off3_eq c
theorem off4 (c : Dev nD) (j : Fin 31) : k0_off4 c (BitVec.ofNat 32 (1 + j.val)) = ![32 * (nxt c j.val).val, 0] := by
  rw [Gen.k0_off4_eq c j, nxt_val]; rfl
theorem off5 (c : Dev nD) : k0_off5 c = ![32 * c.val, 0] := Gen.k0_off5_eq c
theorem off6 (c : Dev nD) (j : Fin 31) : k0_off6 c (BitVec.ofNat 32 (1 + j.val)) = ![32 * (nxt c (30 - j.val)).val, 0] := by
  rw [Gen.k0_off6_eq c j, nxt_val]
  have h1 := j.isLt
  have h2 : c.val < 32 := c.isLt
  congr 3
  omega

/-! ## The transfers' views -/

theorem pM_set (c : Dev nD) (j : Fin 31) : (pM c j).view.set = ck (nxt c j.val) :=
  (View.set_slice_whole _ _).trans (rows_set _ (off4 c j) _)
theorem gM_set (c : Dev nD) : (gM c).view.set = ck c :=
  (View.set_slice_whole _ _).trans (rows_set _ (off5 c) _)

theorem slot_set (k : Fin 31) : (Rect.unit (s := S31x32x768) ![k.val, 0, 0] S1x32x768.size (inb_slot k)).set = sk k.val := by
  ext i
  rw [Rect.mem_set_unit, mem_sk]
  have h1 : (i 1).val < 32 := (i 1).isLt
  have h2 : (i 2).val < 768 := (i 2).isLt
  constructor
  · intro h
    have h0 : k.val ≤ (i 0).val ∧ (i 0).val < k.val + 1 := h 0
    omega
  · intro h a
    match a with
    | 0 => show k.val ≤ (i 0).val ∧ (i 0).val < k.val + 1; omega
    | 1 => show 0 ≤ (i 1).val ∧ (i 1).val < 0 + 32; omega
    | 2 => show 0 ≤ (i 2).val ∧ (i 2).val < 0 + 768; omega

theorem sM_set (k : Fin 31) : (sM k).view.set = sk k.val :=
  (View.set_reshape _ _).trans ((View.set_slice_whole _ _).trans (slot_set k))

theorem pM_emb (c : Dev nD) (j : Fin 31) (x : S32x768.Idx) : (pM c j).view.emb x = rowAt (nxt c j.val) x := rows_emb _ (off4 c j) _ x
theorem gM_emb (c : Dev nD) (x : S32x768.Idx) : (gM c).view.emb x = rowAt c x := rows_emb _ (off5 c) _ x

theorem slot_emb (k : Fin 31) (x : S1x32x768.Idx) :
    (Rect.unit (s := S31x32x768) ![k.val, 0, 0] S1x32x768.size (inb_slot k)).emb x = (ix3 k (x 1) (x 2) : S31x32x768.Idx) := by
  funext a
  match a with
  | 0 =>
    apply Fin.ext
    have h : (x 0).val < 1 := (x 0).isLt
    show k.val + 1 * (x 0).val = k.val
    omega
  | 1 => apply Fin.ext; show 0 + 1 * (x 1).val = (x 1).val; omega
  | 2 => apply Fin.ext; show 0 + 1 * (x 2).val = (x 2).val; omega

theorem ix2_eta (x : S32x768.Idx) : x = (ix2 (x 0) (x 1) : (⟨2, ![32, 768]⟩ : Shape).Idx) := by
  funext a
  match a with
  | 0 => rfl
  | 1 => rfl

theorem squeeze_slot (h : (⟨2, ![32, 768]⟩ : Shape).numel = (⟨3, ![1, 32, 768]⟩ : Shape).numel) (x : S32x768.Idx) :
    Shape.reshapeEquiv h x = ix3 (⟨0, Nat.one_pos⟩ : Fin 1) (x 0) (x 1) :=
  (congrArg (Shape.reshapeEquiv h) (ix2_eta x)).trans (reshapeEquiv_ix2_1ab h (x 0) (x 1))

theorem sM_emb (k : Fin 31) (x : S32x768.Idx) : (sM k).view.emb x = (ix3 k (x 0) (x 1) : S31x32x768.Idx) :=
  (congrArg (Rect.unit (s := S31x32x768) ![k.val, 0, 0] S1x32x768.size (inb_slot k)).emb (squeeze_slot _ x)).trans (slot_emb k _)

/-- The element a view's write sets. -/
theorem write_at {Val : EltTy → Type} {κ : Kind} {sp : Space} {s : Shape} {e : EltTy} (v : View sig κ sp s e)
    (f : v.ty.Contents Val) (w : s.Idx → Val e) {y : v.ty.Idx} {x : s.Idx} (h : v.emb x = y) :
    v.write Val f w Finset.univ y = _root_.cast (congrArg Val v.elt_eq.symm) (w x) := by
  subst h
  exact View.write_emb_of_mem (v := v) f w (Finset.mem_univ x)

theorem rowAt_of {y : S1024x768.Idx} {d : Dev nD} (h : y ∈ ck d) : rowAt d (rowIx y) = y := by
  rw [← mem_ck.mp h]; exact rowAt_rowIx y

variable (I : Ins F)

/-- The rows device `s` sends for device `d = s + i + 1` land in `d`'s slot `30 - i` as its slots are to hold. -/
theorem rs_land (s : Dev nD) (i : Fin 31) (k : Fin 31) (hk : k.val = 30 - i.val) (fd : Vec F S31x32x768 .bf16) :
    ∀ y ∈ sk k.val, (sM k).view.write (Elt F) fd ((pM s i).view.read (Elt F) (pV I s)) Finset.univ y = rV I (nxt s i.val) y := by
  intro y hy
  have h0 : (ix3 k (y 1) (y 2) : S31x32x768.Idx) = y := by
    funext a
    match a with
    | 0 => exact Fin.ext (mem_sk.mp hy).symm
    | 1 => rfl
    | 2 => rfl
  have h1 : (sM k).view.emb (ix2 (y 1) (y 2) : S32x768.Idx) = y := (sM_emb k _).trans h0
  refine (write_at (sM k).view fd _ h1).trans ?_
  have h2 : rV I (nxt s i.val) y = pV I s (rowAt (nxt s i.val) (ix2 (y 1) (y 2) : S32x768.Idx)) := by
    show pV I (nxt (nxt s i.val) (y 0).val) _ = _
    rw [mem_sk.mp hy, hk, nxt_back s i.val i.isLt]
    rfl
  rw [h2]
  exact congrArg (pV I s) (pM_emb s i _)

/-- The gathered rows land as sent. -/
theorem ag_land (s : Dev nD) (fd : Vec F S1024x768 .bf16) :
    ∀ y ∈ ck s, (gM s).view.write (Elt F) fd ((gM s).view.read (Elt F) (gV I)) Finset.univ y = gV I y := by
  intro y hy
  have h1 : (gM s).view.emb (rowIx y) = y := (gM_emb s _).trans (rowAt_of hy)
  exact (write_at (gM s).view fd _ h1).trans (congrArg (gV I) h1)

/-! ## The loads and stores of 32 rows -/

theorem gstore (c : Dev nD) (fd : Vec F S1024x768 .bf16) :
    ∀ y ∈ ck c, (gW.access (Rect.unit (s := S1024x768) (k0_off3 c) S32x768.size (k0_off3_inb c))).write (Elt F) fd (gC I c) Finset.univ y = gV I y := by
  intro y hy
  have h1 : (gW.access (Rect.unit (s := S1024x768) (k0_off3 c) S32x768.size (k0_off3_inb c))).emb (rowIx y) = y :=
    (rows_emb _ (off3 c) _ _).trans (rowAt_of hy)
  refine (write_at (gW.access (Rect.unit (s := S1024x768) (k0_off3 c) S32x768.size (k0_off3_inb c))) fd _ h1).trans ?_
  show gC I c (rowIx y) = gC I (rowDev y) (rowIx y)
  rw [mem_ck.mp hy]

/-- The rows of device `d` in the result are set by storing them; the others stay. -/
theorem ostore {off : Fin 2 → ℕ} (d : Dev nD) (h : off = ![32 * d.val, 0]) (inb) (f : Vec F S1024x768 .f32) (w : FVec F S32x768 .f32) (y : S1024x768.Idx) :
    (oW.access (Rect.unit (s := S1024x768) off S32x768.size inb)).write (Elt F) f w Finset.univ y = if rowDev y = d then w (rowIx y) else f y := by
  by_cases hy : y ∈ ck d
  · rw [if_pos (mem_ck.mp hy)]
    exact write_at (oW.access (Rect.unit (s := S1024x768) off S32x768.size inb)) f w ((rows_emb _ h _ _).trans (rowAt_of hy))
  · rw [if_neg (fun h' => hy (mem_ck.mpr h'))]
    refine View.write_of_not_mem (v := oW.access (Rect.unit (s := S1024x768) off S32x768.size inb)) f w _ (fun h' => hy ?_)
    have hs : (oW.access (Rect.unit (s := S1024x768) off S32x768.size inb)).set = ck d :=
      (View.set_slice_whole _ _).trans (rows_set _ h _)
    rw [View.setOn_univ] at h'
    exact hs ▸ h'

/-- The gathered rows of device `c + (30 - j) + 1`, as loaded. -/
theorem gload (c : Dev nD) (j : Fin 31) :
    (gW.access (Rect.unit (s := S1024x768) (k0_off6 c (BitVec.ofNat 32 (1 + j.val))) S32x768.size (k0_off6_inb c j))).read (Elt F) (gV I)
      = gC I (nxt c (30 - j.val)) := by
  funext x
  refine (congrArg (gV I) (rows_emb _ (off6 c j) (k0_off6_inb c j) x)).trans ?_
  show gC I (rowDev (rowAt _ x)) (rowIx (rowAt _ x)) = _
  rw [rowDev_rowAt, rowIx_rowAt]

end Cert.KernelIdeal.Talk
-- ==== Proof.Steps.lean ====
/-
  One lemma per kind of step the kernel takes, over what the core holds before and after it.
-/
module

public import proofs.«01_k».proof.Proof.Geo
public import Idealize.SL.ProofMode.BigOp

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

/-- Running a program on device `c`'s core. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A family of 31 things, each in one of three states in turn -/

section Life
variable {M : Type} [URA M]

/-- The first `w` are done (`C`), the next up to `s` under way (`B`), the rest still to do (`A`). -/
def life (A B C : Fin 31 → sProp M) (s w : ℕ) : sProp M :=
  bigSep Finset.univ fun j : Fin 31 => if j.val < w then C j else if j.val < s then B j else A j

theorem bigSep_update (Φ Ψ : Fin 31 → sProp M) (i : Fin 31) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (fun j hj => h j (Finset.ne_of_mem_erase hj))]
  iintro ⟨H, HR⟩
  isplitl [H]; · iexact H
  iintro H'
  isplitl [H']; · iexact H'
  iexact HR

variable {A B C : Fin 31 → sProp M}

theorem life_start (s w : ℕ) (hs : s < 31) (hw : w ≤ s) :
    life A B C s w ⊢ iprop(A ⟨s, hs⟩ ∗ (B ⟨s, hs⟩ -∗ life A B C (s + 1) w)) := by
  unfold life
  have h := bigSep_update (fun j : Fin 31 => if j.val < w then C j else if j.val < s then B j else A j)
    (fun j : Fin 31 => if j.val < w then C j else if j.val < s + 1 then B j else A j) ⟨s, hs⟩ (fun j hj => by
      have hj' : j.val ≠ s := fun he => hj (Fin.ext he)
      by_cases h1 : j.val < w
      · rw [if_pos h1, if_pos h1]
      · rw [if_neg h1, if_neg h1]
        by_cases h2 : j.val < s
        · rw [if_pos h2, if_pos (by omega)]
        · rw [if_neg h2, if_neg (by omega)])
  rw [if_neg (by show ¬ s < w; omega), if_neg (Nat.lt_irrefl s), if_neg (by show ¬ s < w; omega), if_pos (Nat.lt_succ_self s)] at h
  exact h

theorem life_finish (s w : ℕ) (hw : w < 31) (h : w < s) :
    life A B C s w ⊢ iprop(B ⟨w, hw⟩ ∗ (C ⟨w, hw⟩ -∗ life A B C s (w + 1))) := by
  unfold life
  have h' := bigSep_update (fun j : Fin 31 => if j.val < w then C j else if j.val < s then B j else A j)
    (fun j : Fin 31 => if j.val < w + 1 then C j else if j.val < s then B j else A j) ⟨w, hw⟩ (fun j hj => by
      have hj' : j.val ≠ w := fun he => hj (Fin.ext he)
      by_cases h1 : j.val < w
      · rw [if_pos h1, if_pos (by omega)]
      · rw [if_neg h1, if_neg (show ¬ j.val < w + 1 by omega)])
  rw [if_neg (Nat.lt_irrefl w), if_pos (show w < s from h), if_pos (Nat.lt_succ_self w)] at h'
  exact h'

/-- One that is done, looked at and put back. -/
theorem life_peek (s w : ℕ) (i : Fin 31) (hi : i.val < w) :
    life A B C s w ⊢ iprop(C i ∗ (C i -∗ life A B C s w)) := by
  unfold life
  have h := bigSep_update (fun j : Fin 31 => if j.val < w then C j else if j.val < s then B j else A j) _ i (fun j _ => rfl)
  rw [if_pos hi] at h
  exact h

theorem life_none : life A B C 0 0 = bigSep Finset.univ A := by
  unfold life
  exact bigSep_congr fun j _ => by rw [if_neg (Nat.not_lt_zero _), if_neg (Nat.not_lt_zero _)]
theorem life_begun : life A B C 31 0 = bigSep Finset.univ B := by
  unfold life
  exact bigSep_congr fun j _ => by rw [if_neg (Nat.not_lt_zero _), if_pos j.isLt]
theorem life_done (s : ℕ) : life A B C s 31 = bigSep Finset.univ C := by
  unfold life
  exact bigSep_congr fun j _ => by rw [if_pos j.isLt]

end Life

/-! ## What every step may use -/

variable (I : Ins F) (κ : GSem nD τ sig → ℕ)

theorem ltk (k : Fin 126) : 4 + k.val < 130 := by omega

/-- Every cell's invariant, the levels, that the barrier cells are open, and the device's own DMA cells too. -/
def Cx (c : Dev nD) : sProp 𝕄 :=
  iprop((bigSep Finset.univ fun d : Dev nD => cellInv ER (sched I) (κ (barCell d)) (barCell d))
    ∗ (bigSep Finset.univ fun p : Dev nD × Fin 126 => cellInv ER (sched I) (κ (dCell p.1 (4 + p.2.val) (ltk p.2))) (dCell p.1 (4 + p.2.val) (ltk p.2)))
    ∗ levAts L lv
    ∗ (bigSep Finset.univ fun d : Dev nD => reached ER (barCell d) 0)
    ∗ (bigSep Finset.univ fun k : Fin 126 => reached ER (dCell c (4 + k.val) (ltk k)) 0))

instance Cx_persistent (c : Dev nD) : BI.Persistent (Cx I κ c) := by
  unfold Cx; infer_instance

theorem cx_bar (c d : Dev nD) : Cx I κ c ⊢ cellInv ER (sched I) (κ (barCell d)) (barCell d) := by
  refine BIBase.Entails.trans (?_ : _ ⊢ bigSep Finset.univ fun d : Dev nD => cellInv ER (sched I) (κ (barCell d)) (barCell d)) (bigSep_elim (Finset.mem_univ d))
  unfold Cx
  iintro ⟨H, -⟩
  iexact H
theorem cx_dma (c d : Dev nD) (k : ℕ) (h : k < 130) (h4 : 4 ≤ k) : Cx I κ c ⊢ cellInv ER (sched I) (κ (dCell d k h)) (dCell d k h) := by
  obtain ⟨k, rfl⟩ := Nat.exists_eq_add_of_le h4
  refine BIBase.Entails.trans (?_ : _ ⊢ bigSep Finset.univ fun p : Dev nD × Fin 126 =>
    cellInv ER (sched I) (κ (dCell p.1 (4 + p.2.val) (ltk p.2))) (dCell p.1 (4 + p.2.val) (ltk p.2)))
    (bigSep_elim (Finset.mem_univ ((d, ⟨k, by omega⟩) : Dev nD × Fin 126)))
  unfold Cx
  iintro ⟨-, H, -⟩
  iexact H
theorem cx_lev (c : Dev nD) : Cx I κ c ⊢ levAts L lv := by
  unfold Cx
  iintro ⟨-, -, H, -⟩
  iexact H
theorem cx_barR (c d : Dev nD) : Cx I κ c ⊢ reached ER (barCell d) 0 := by
  refine BIBase.Entails.trans (?_ : _ ⊢ bigSep Finset.univ fun d : Dev nD => reached ER (barCell d) 0) (bigSep_elim (Finset.mem_univ d))
  unfold Cx
  iintro ⟨-, -, -, H, -⟩
  iexact H
theorem cx_dmaR (c : Dev nD) (k : ℕ) (h : k < 130) (h4 : 4 ≤ k) : Cx I κ c ⊢ reached ER (dCell c k h) 0 := by
  obtain ⟨k, rfl⟩ := Nat.exists_eq_add_of_le h4
  refine BIBase.Entails.trans (?_ : _ ⊢ bigSep Finset.univ fun k : Fin 126 => reached ER (dCell c (4 + k.val) (ltk k)) 0)
    (bigSep_elim (Finset.mem_univ (⟨k, by omega⟩ : Fin 126)))
  unfold Cx
  iintro ⟨-, -, -, -, H⟩
  iexact H

/-- What is left to pay. -/
def Ow (c : Dev nD) (b s g : ℕ) : sProp 𝕄 := iprop(∃ W, owes (c : Thread nD τ) (owe c b s g) W)

/-! ## The barrier -/

def sgA (c : Dev nD) (j : Fin 31) : sProp 𝕄 := iprop(dutyTok ER (barCell (nxt c j.val)) 0 j ∗ barPay (nxt c j.val) j.val)

/-- After `n` signals. -/
def Sg (c : Dev nD) (n : ℕ) : sProp 𝕄 :=
  iprop(Cx I κ c ∗ Ow c n 0 0 ∗ life (sgA c) (fun _ => iprop(emp)) (fun _ => iprop(emp)) n 0)

theorem signal_step (c : Dev nD) (n : ℕ) (hn : n < 31) {R : sProp 𝕄} {α : Type} {dv : ℕ} {hlt : dv < 32} {sm : Sem sig} {z : ℤ}
    {k : PUnit → Prog (TpuEff nD τ sig (Elt F) Λ₀ .tc) α} {Q : α → sProp 𝕄}
    (hd : dv = (nxt c n).val) (hs : sm = barS) (hz : z = ((1 : ℕ) : ℤ))
    (h : iprop(Sg I κ c (n + 1) ∗ R) ⊢ Run c (k ⟨⟩) Q) :
    iprop(Sg I κ c n ∗ R) ⊢ Run c (.op (.semSignal ((⟨dv, hlt⟩ : Dev nD), Proc.tc) sm z) k) Q := by
  subst hd hs hz
  unfold Sg Ow at *
  iintro ⟨⟨#HC, ⟨%W, HO⟩, HL⟩, HR⟩
  ihave HL' := (life_start n 0 hn (Nat.zero_le n)) $$ HL
  icases HL' with ⟨HA, HL⟩
  unfold sgA
  icases HA with ⟨Htok, Hpay⟩
  iapply (Rounds.wp_signal 𝒱₀ ER (sched I) (c : Thread nD τ) none (dst := (nxt c n : Thread nD τ)) (sem := barS) (r := 0) (d := ⟨n, hn⟩) (κ := κ (barCell (nxt c n)))
      (by rw [duties_bar]; exact Finset.mem_univ _) (amount_bar I (nxt c n) ⟨n, hn⟩) () (owe c (n + 1) 0 0) (owe_b c n 0 0 hn))
    $$ [HO Htok Hpay]
  · isplitr; · iapply (cx_bar I κ c (nxt c n)); iexact HC
    isplitl [HO]; · iexact HO
    isplitl [Htok]; · iexact Htok
    isplitl [Hpay]; · rw [payload_bar]; iexact Hpay
    iapply (cx_barR I κ c (nxt c n)); iexact HC
  iintro HO
  iapply h
  isplitr [HR]
  · isplitr; · iexact HC
    isplitl [HO]; · iexists W; iexact HO
    iapply HL
    iempintro
  iexact HR

/-- What the barrier hands a device about the device its send `i` goes to. -/
def give (c : Dev nD) (i : Fin 31) : sProp 𝕄 :=
  iprop((∃ f, rPt (nxt c i.val) (sk (30 - i.val)) f) ∗ (∃ f, gPt (nxt c i.val) (ck c) fullShare f)
    ∗ reached ER (dCell (nxt c i.val) (37 + (30 - i.val)) (lt37r _)) 0 ∗ reached ER (dCell (nxt c i.val) (99 + (30 - i.val)) (lt99r _)) 0)

theorem barPay_give (c : Dev nD) (i : Fin 31) : (barPay c (Fin.rev i).val : sProp 𝕄) = give c i := by
  have h1 : (Fin.rev i).val = 30 - i.val := by rw [Fin.val_rev]; omega
  have h2 : 30 - (30 - i.val) = i.val := by omega
  unfold barPay give
  rw [dif_pos (Fin.rev i).isLt]
  congr 1
  · rw [h1, h2]
  congr 1
  · rw [h1, h2]
  · simp only [h1, h2]

theorem bar_gives (c : Dev nD) : (bigSep Finset.univ fun d : Fin 31 => barPay (F := F) c d.val) = bigSep Finset.univ fun i : Fin 31 => give c i := by
  rw [bigSep_univ_equiv Fin.revPerm]
  exact bigSep_congr fun i _ => barPay_give c i

theorem barrier_step (c : Dev nD) {R : sProp 𝕄} {α : Type} {sm : Sem sig} {z : ℤ}
    {k : PUnit → Prog (TpuEff nD τ sig (Elt F) Λ₀ .tc) α} {Q : α → sProp 𝕄}
    (hs : sm = barS) (hz : z = ((31 : ℕ) : ℤ))
    (h : iprop((Cx I κ c ∗ Ow c 31 0 0) ∗ atPos ER (barCell c) (0 + 1) ∅ 0 ∗ (bigSep Finset.univ fun i : Fin 31 => give c i) ∗ R) ⊢ Run c (k ⟨⟩) Q) :
    iprop((Cx I κ c ∗ Ow c 31 0 0) ∗ (cred (tallyAt (barCell c) () 31) ∗ atPos ER (barCell c) 0 ∅ 0) ∗ R)
      ⊢ Run c (.op (.semWait sm z) k) Q := by
  subst hs hz
  unfold Ow at *
  iintro ⟨⟨#HC, ⟨%W, HO⟩⟩, ⟨Hc, Ha⟩, HR⟩
  iapply (Rounds.wp_wait_rest_token 𝒱₀ ER (sched I) (c : Thread nD τ) none (κ := κ (barCell c))
      (wpE_semWait_eq 𝒱₀ (c : Thread nD τ) none Set.univ) (Set.mem_univ _) () (O := owe c 31 0 0) (W := W) (R := 0) (m := 0) (T := ∅)
      ((Nat.zero_add 31).trans (expect_bar I c).symm)) $$ [Hc HO Ha]
  · isplitr; · iapply (cx_bar I κ c c); iexact HC
    isplitl [Hc]; · iexact Hc
    isplitl [HO]; · iexact HO
    isplitr
    · iapply (mayWait c (.reg barS) 31 0 0 1 (Nat.le_of_eq (lv_bar c)) (.inl (Nat.le_refl _)) (.inr (by decide)) (.inr (by decide)))
      iapply (cx_lev I κ c); iexact HC
    iexact Ha
  iintro ⟨HO, Ha, -, Hpay⟩
  ihave Hp := (Entails.of_eq ((rest_bar I c).trans (bar_gives c))) $$ Hpay
  iapply h
  isplitl [HO]
  · isplitr; · iexact HC
    iexists _; iexact HO
  isplitl [Ha]; · iexact Ha
  isplitl [Hp]; · iexact Hp
  iexact HR

/-! ## A wait on one of the device's own transfers -/

/-- What a wait on DMA cell `k` needs, and what is left of it. -/
def Pend (c : Dev nD) (k : ℕ) (h : k < 130) (n : ℕ) : sProp 𝕄 := iprop(cred (tallyAt (dCell c k h) () n) ∗ atPos ER (dCell c k h) 0 ∅ 0)

theorem dma_wait (c : Dev nD) (k₀ : ℕ) (hk : k₀ < 130) (h4 : 4 ≤ k₀) (b s g l n : ℕ) (hn : n = (sched I).expect (dCell c k₀ hk) 0)
    (hl : lv (dCell c k₀ hk) () ≤ l) (h1 : 31 ≤ b ∨ l < 1) (h2 : 31 ≤ s ∨ l < 2 + s) (h3 : 31 ≤ g ∨ l < 100 + g)
    {R : sProp 𝕄} {α : Type} {sp sp' : Space} {sh : Shape} {e : EltTy} {src : Memref sig .tc sp sh e} {dst : Memref sig .tc sp' sh e}
    {h₁ : src.view.WordExact} {h₂ : dst.view.WordExact} {sm : DmaSem sig}
    {k : PUnit → Prog (TpuEff nD τ sig (Elt F) Λ₀ .tc) α} {Q : α → sProp 𝕄}
    (hs : sm = dS k₀ hk) (hd : dst.view.dmaCredit = n)
    (h : iprop((Cx I κ c ∗ Ow c b s g) ∗ (dmaPay I c k₀ ∗ atPos ER (dCell c k₀ hk) (0 + 1) ∅ 0) ∗ R) ⊢ Run c (k ⟨⟩) Q) :
    iprop((Cx I κ c ∗ Ow c b s g) ∗ Pend c k₀ hk n ∗ R)
      ⊢ Run c (.op (.waitDma2 sm src dst h₁ h₂) k) Q := by
  subst hs hd
  unfold Ow Pend at *
  iintro ⟨⟨#HC, ⟨%W, HO⟩⟩, ⟨Hc, Ha⟩, HR⟩
  iapply (Rounds.wp_wait_rest_token 𝒱₀ ER (sched I) (c : Thread nD τ) none (κ := κ (dCell c k₀ hk))
      (wpE_waitDma2_eq 𝒱₀ (c : Thread nD τ) none Set.univ) (Set.mem_univ _) () (O := owe c b s g) (W := W) (R := 0) (m := 0) (T := ∅)
      ((Nat.zero_add _).trans hn)) $$ [Hc HO Ha]
  · isplitr; · iapply (cx_dma I κ c c k₀ hk h4); iexact HC
    isplitl [Hc]; · iexact Hc
    isplitl [HO]; · iexact HO
    isplitr
    · iapply (mayWait c (.dma (dS k₀ hk)) b s g l hl h1 h2 h3)
      iapply (cx_lev I κ c); iexact HC
    iexact Ha
  iintro ⟨HO, Ha, -, Hpay⟩
  ihave Hp := (Entails.of_eq (rest_dma I c k₀ hk h4)) $$ Hpay
  iapply h
  isplitl [HO]
  · isplitr; · iexact HC
    iexists _; iexact HO
  isplitl [Hp Ha]
  · isplitl [Hp]; · iexact Hp
    iexact Ha
  iexact HR

/-! ## The transfers of partial products -/

theorem lt31r (j : ℕ) : 30 - j < 31 := by omega
/-- The slot send `j` fills on the device it goes to. -/
abbrev slotOf (j : Fin 31) : Fin 31 := ⟨30 - j.val, lt31r j.val⟩

/-- Send `j`: before it is started, under way, and waited for. -/
def rsA (c : Dev nD) (j : Fin 31) : sProp 𝕄 :=
  iprop(dutyTok ER (dCell c (6 + j.val) (lt6 j.isLt)) 0 0 ∗ dutyTok ER (dCell (nxt c j.val) (37 + (30 - j.val)) (lt37r _)) 0 0
    ∗ reached ER (dCell (nxt c j.val) (37 + (30 - j.val)) (lt37r _)) 0
    ∗ (∃ f, rPt (nxt c j.val) (sk (30 - j.val)) f) ∗ pPt c (ck (nxt c j.val)) (pV I c) ∗ atPos ER (dCell c (6 + j.val) (lt6 j.isLt)) 0 ∅ 0)
def rsB (c : Dev nD) (j : Fin 31) : sProp 𝕄 := Pend c (6 + j.val) (lt6 j.isLt) N
def rsC (c : Dev nD) (j : Fin 31) : sProp 𝕄 :=
  iprop(dmaPay I c (6 + j.val) ∗ atPos ER (dCell c (6 + j.val) (lt6 j.isLt)) (0 + 1) ∅ 0)
/-- The receipt waited for after send `j`: before and after. -/
def rvB (c : Dev nD) (j : Fin 31) : sProp 𝕄 := Pend c (37 + (30 - j.val)) (lt37r _) N
def rvC (c : Dev nD) (j : Fin 31) : sProp 𝕄 :=
  iprop(dmaPay I c (37 + (30 - j.val)) ∗ atPos ER (dCell c (37 + (30 - j.val)) (lt37r _)) (0 + 1) ∅ 0)

/-- After `s` sends, `w` waits for them and `r` receipts. -/
def RS (c : Dev nD) (s w r : ℕ) : sProp 𝕄 :=
  iprop((Cx I κ c ∗ Ow c 31 s 0) ∗ life (rsA I c) (rsB c) (rsC I c) s w ∗ life (rvB c) (rvB c) (rvC I c) 31 r)

theorem pPt_pM (c : Dev nD) (j : Fin 31) (f : Vec F S1024x768 .bf16) :
    (pPt c (ck (nxt c j.val)) f : sProp 𝕄) = ((pM c j).view.loc (c : Thread nD τ) ↦[(pM c j).view.set]{fullShare} f) := by
  rw [pM_set]; rfl
theorem rPt_sM (d : Dev nD) (k : Fin 31) (f : Vec F S31x32x768 .bf16) :
    (rPt d (sk k.val) f : sProp 𝕄) = ((sM k).view.loc (d : Thread nD τ) ↦[(sM k).view.set]{fullShare} f) := by
  rw [sM_set]; rfl
theorem rPt_access (d : Dev nD) (k : ℕ) (rc : Rect S31x32x768) (f : Vec F S31x32x768 .bf16) :
    (rPt d (sk k) f : sProp 𝕄) = ((rW.access rc).loc (d : Thread nD τ) ↦[sk k]{fullShare} f) := rfl

theorem rs_send (c : Dev nD) (s w r : ℕ) (hs : s < 31) (hw : w ≤ s) {R : sProp 𝕄} {α : Type} {dv : ℕ} {hlt : dv < 32}
    {src : Memref sig .tc .vmem S32x768 .bf16} {dst : Memref sig .tc .vmem S32x768 .bf16} {sS sR : DmaSem sig} {hsc}
    {h₁ : src.view.WordExact} {h₂ : dst.view.WordExact} {h₃ : DmaTarget.Typed (nD := nD) .vmem (.dma sR) (.remote ((⟨dv, hlt⟩ : Dev nD) : Thread nD τ) dst (.dma sS) hsc)}
    {k : PUnit → Prog (TpuEff nD τ sig (Elt F) Λ₀ .tc) α} {Q : α → sProp 𝕄}
    (hd : dv = (nxt c s).val) (e₁ : src = pM c ⟨s, hs⟩) (e₂ : dst = sM (slotOf ⟨s, hs⟩)) (e₃ : sS = dS (6 + s) (lt6 hs)) (e₄ : sR = dS (37 + (30 - s)) (lt37r s))
    (h : iprop(RS I κ c (s + 1) w r ∗ R) ⊢ Run c (k ⟨⟩) Q) :
    iprop(RS I κ c s w r ∗ R) ⊢ Run c (.op (.enqueueDma src (.remote ((⟨dv, hlt⟩ : Dev nD) : Thread nD τ) dst (.dma sS) hsc) (.dma sR) h₁ h₂ h₃) k) Q := by
  subst hd e₁ e₂ e₃ e₄
  unfold RS Ow at *
  iintro ⟨⟨⟨#HC, ⟨%W, HO⟩⟩, HL, HV⟩, HR⟩
  ihave HL' := (life_start s w hs hw) $$ HL
  icases HL' with ⟨HA, HL⟩
  unfold rsA rsB Pend
  icases HA with ⟨HtS, HtN, #HrN, ⟨%fd, Hd⟩, Hp, Ha⟩
  iapply (Rounds.wp_send_pointsTo 𝒱₀ ER (sched I) (c : Thread nD τ) none (c' := (nxt c s : Thread nD τ)) (src := pM c ⟨s, hs⟩) (dst := sM (slotOf ⟨s, hs⟩))
      (sS := .dma (dS (6 + s) (lt6 hs))) (sem := .dma (dS (37 + (30 - s)) (lt37r s))) (q := fullShare) (fs := pV I c)
      (κ₁ := κ (dCell c (6 + s) (lt6 hs))) (κ₂ := κ (dCell (nxt c s) (37 + (30 - s)) (lt37r s)))
      (r₁ := 0) (r₂ := 0) (d₁ := 0) (d₂ := 0) (fd := fd)
      (by rw [duties_dma I c _ _ (by omega)]; exact Finset.mem_singleton_self _) (by rw [duties_dma I (nxt c s) _ _ (by omega)]; exact Finset.mem_singleton_self _)
      () () N rfl (amount_dma I c _ _ (by omega) 0) (amount_dma I (nxt c s) _ _ (by omega) 0) (owe c 31 (s + 1) 0) (owe_s c 31 s 0 hs) (W := W)
      (by
        rw [payload_dma, dmaPay_rsS I c hs, pM_set c ⟨s, hs⟩]
        exact BI.Entails.refl _)
      (by
        rw [payload_dma, dmaPay_rsR I (nxt c s) (lt31r s)]
        rw [sM_set (slotOf ⟨s, hs⟩), pointsTo_congr (rs_land I c ⟨s, hs⟩ (slotOf ⟨s, hs⟩) rfl fd)]
        exact BI.Entails.refl _)) $$ [Hp Hd HO HtS HtN]
  · isplitr; · iapply (cx_dma I κ c c (6 + s) (lt6 hs) (by omega)); iexact HC
    isplitr; · iapply (cx_dma I κ c (nxt c s) (37 + (30 - s)) (lt37r s) (by omega)); iexact HC
    isplitl [Hp]; · iapply (Entails.of_eq (pPt_pM c ⟨s, hs⟩ (pV I c))); iexact Hp
    isplitl [Hd]; · iapply (Entails.of_eq (rPt_sM (nxt c s) (slotOf ⟨s, hs⟩) fd)); iexact Hd
    isplitl [HO]; · iexact HO
    isplitl [HtS]; · iexact HtS
    isplitr; · iapply (cx_dmaR I κ c (6 + s) (lt6 hs) (by omega)); iexact HC
    isplitl [HtN]; · iexact HtN
    iexact HrN
  iintro ⟨Hc, HO⟩
  iapply h
  isplitr [HR]
  · isplitl [HO]
    · isplitr; · iexact HC
      iexists W; iexact HO
    isplitl [HL Hc Ha]
    · iapply HL
      isplitl [Hc]; · iexact Hc
      iexact Ha
    iexact HV
  iexact HR

theorem rs_recv (c : Dev nD) (s w r : ℕ) (hr : r < 31) (hs : r < s) {R : sProp 𝕄} {α : Type}
    {src : Memref sig .tc .vmem S32x768 .bf16} {dst : Memref sig .tc .vmem S32x768 .bf16} {sm : DmaSem sig}
    {h₁ : src.view.WordExact} {h₂ : dst.view.WordExact}
    {k : PUnit → Prog (TpuEff nD τ sig (Elt F) Λ₀ .tc) α} {Q : α → sProp 𝕄}
    (e : sm = dS (37 + (30 - r)) (lt37r r)) (hd : dst.view.dmaCredit = N)
    (h : iprop(RS I κ c s w (r + 1) ∗ R) ⊢ Run c (k ⟨⟩) Q) :
    iprop(RS I κ c s w r ∗ R) ⊢ Run c (.op (.waitDma2 sm src dst h₁ h₂) k) Q := by
  refine BIBase.Entails.trans (?_ : _ ⊢ iprop((Cx I κ c ∗ Ow c 31 s 0) ∗ Pend c (37 + (30 - r)) (lt37r r) N
    ∗ ((rvC I c ⟨r, hr⟩ -∗ life (rvB c) (rvB c) (rvC I c) 31 (r + 1)) ∗ life (rsA I c) (rsB c) (rsC I c) s w ∗ R))) ?_
  · unfold RS
    iintro ⟨⟨HX, HL, HV⟩, HR⟩
    ihave HV' := (life_finish 31 r hr hr) $$ HV
    icases HV' with ⟨HB, HV⟩
    unfold rvB
    isplitl [HX]; · iexact HX
    isplitl [HB]; · iexact HB
    isplitl [HV]; · iexact HV
    isplitl [HL]; · iexact HL
    iexact HR
  refine dma_wait I κ c (37 + (30 - r)) (lt37r r) (by omega) 31 s 0 (2 + r) N (expect_dma I c _ _ (by omega)).symm
    (by rw [lv_dma, if_neg (by omega), if_pos (by omega)]; omega) (.inl (Nat.le_refl _)) (.inr (by omega)) (.inr (by omega)) e hd
    (BIBase.Entails.trans ?_ h)
  unfold RS
  iintro ⟨HX, HP, HV, HL, HR⟩
  isplitr [HR]
  · isplitl [HX]; · iexact HX
    isplitl [HL]; · iexact HL
    iapply HV
    unfold rvC
    iexact HP
  iexact HR

theorem rs_back (c : Dev nD) (s w r : ℕ) (hw : w < 31) (hs : w < s) {R : sProp 𝕄} {α : Type}
    {src : Memref sig .tc .vmem S32x768 .bf16} {dst : Memref sig .tc .vmem S32x768 .bf16} {sm : DmaSem sig}
    {h₁ : src.view.WordExact} {h₂ : dst.view.WordExact}
    {k : PUnit → Prog (TpuEff nD τ sig (Elt F) Λ₀ .tc) α} {Q : α → sProp 𝕄}
    (e : sm = dS (6 + w) (lt6 hw)) (hd : dst.view.dmaCredit = N)
    (h : iprop(RS I κ c s (w + 1) r ∗ R) ⊢ Run c (k ⟨⟩) Q) :
    iprop(RS I κ c s w r ∗ R) ⊢ Run c (.op (.waitDma2 sm src dst h₁ h₂) k) Q := by
  refine BIBase.Entails.trans (?_ : _ ⊢ iprop((Cx I κ c ∗ Ow c 31 s 0) ∗ Pend c (6 + w) (lt6 hw) N
    ∗ ((rsC I c ⟨w, hw⟩ -∗ life (rsA I c) (rsB c) (rsC I c) s (w + 1)) ∗ life (rvB c) (rvB c) (rvC I c) 31 r ∗ R))) ?_
  · unfold RS
    iintro ⟨⟨HX, HL, HV⟩, HR⟩
    ihave HL' := (life_finish s w hw hs) $$ HL
    icases HL' with ⟨HB, HL⟩
    unfold rsB
    isplitl [HX]; · iexact HX
    isplitl [HB]; · iexact HB
    isplitl [HL]; · iexact HL
    isplitl [HV]; · iexact HV
    iexact HR
  refine dma_wait I κ c (6 + w) (lt6 hw) (by omega) 31 s 0 0 N (expect_dma I c _ _ (by omega)).symm
    (by rw [lv_dma, if_pos (by omega)]) (.inl (Nat.le_refl _)) (.inr (by omega)) (.inr (by omega)) e hd
    (BIBase.Entails.trans ?_ h)
  unfold RS
  iintro ⟨HX, HP, HL, HV, HR⟩
  isplitr [HR]
  · isplitl [HX]; · iexact HX
    isplitl [HP HL]
    · iapply HL
      unfold rsC
      iexact HP
    iexact HV
  iexact HR

/-- Slot `30 - i` is read after its receipt. -/
theorem rs_slot (c : Dev nD) (s w r : ℕ) (i : Fin 31) (hi : i.val < r) {R : sProp 𝕄} {α : Type}
    {m : Memref sig .tc .vmem S31x32x768 .bf16} {rc : Rect S31x32x768} {hl : m.view.LoadsAt rc}
    {k : (rc.shape.Idx → Elt F .bf16) → Prog (TpuEff nD τ sig (Elt F) Λ₀ .tc) α} {Q : α → sProp 𝕄}
    (em : m = rW) (er : rc = Rect.unit (s := S31x32x768) ![30 - i.val, 0, 0] S1x32x768.size (inb_slot (slotOf i)))
    (h : iprop(RS I κ c s w r ∗ R) ⊢ Run c (k ((rW.access rc).read (Elt F) (rV I c))) Q) :
    iprop(RS I κ c s w r ∗ R) ⊢ Run c (.op (.load m rc hl) k) Q := by
  subst em er
  have hS : (rW.access (Rect.unit (s := S31x32x768) ![30 - i.val, 0, 0] S1x32x768.size (inb_slot (slotOf i)))).set = sk (30 - i.val) :=
    (View.set_slice_whole _ _).trans (slot_set (slotOf i))
  refine BIBase.Entails.trans (?_ : _ ⊢ iprop(rPt c (sk (30 - i.val)) (rV I c) ∗ (rPt c (sk (30 - i.val)) (rV I c) -∗ (RS I κ c s w r ∗ R)))) ?_
  · unfold RS
    iintro ⟨⟨HX, HL, HV⟩, HR⟩
    ihave HV' := (life_peek 31 r i hi) $$ HV
    icases HV' with ⟨HC, HV⟩
    unfold rvC
    rw [dmaPay_rsR I c (lt31r i.val)]
    icases HC with ⟨Hp, Ha⟩
    isplitl [Hp]; · iexact Hp
    iintro Hp
    isplitr [HR]
    · isplitl [HX]; · iexact HX
      isplitl [HL]; · iexact HL
      iapply HV
      isplitl [Hp]; · iexact Hp
      iexact Ha
    iexact HR
  iintro ⟨Hp, HB⟩
  iapply (wp_load_rect 𝒱₀ (c : Thread nD τ) none Set.univ (S := sk (30 - i.val)) (q := fullShare) (f := rV I c) (Finset.subset_of_eq hS)) $$ [Hp]
  · iapply (Entails.of_eq (rPt_access c (30 - i.val) _ (rV I c))); iexact Hp
  iintro Hp
  iapply h
  iapply HB
  iapply (Entails.of_eq (rPt_access c (30 - i.val) _ (rV I c)).symm); iexact Hp

/-! ## The result's rows -/

/-- The result buffer, its own rows and the first `o` gathered blocks stored. -/
def Out (c : Dev nD) (o : ℕ) : sProp 𝕄 :=
  iprop(∃ f, oPt c f ∗ ⌜∀ i : S1024x768.Idx, (rowDev i = c ∨ ∃ j, j < o ∧ rowDev i = nxt c (30 - j)) → f i = outV I c i⌝)

theorem out_peek (c : Dev nD) {P R : sProp 𝕄} {α : Type} {m : Memref sig .tc .vmem S1024x768 .f32} {rc : Rect S1024x768} {hl : m.view.LoadsAt rc}
    {k : (rc.shape.Idx → Elt F .f32) → Prog (TpuEff nD τ sig (Elt F) Λ₀ .tc) α} {Q : α → sProp 𝕄} {f : Vec F S1024x768 .f32}
    (em : m = oW) (h : ∀ v, iprop(P ∗ oPt c f ∗ R) ⊢ Run c (k v) Q) :
    iprop(P ∗ oPt c f ∗ R) ⊢ Run c (.op (.load m rc hl) k) Q := by
  subst em
  unfold oPt at *
  iintro ⟨HP, Ho, HR⟩
  iapply (wp_load_rect 𝒱₀ (c : Thread nD τ) none Set.univ (m := oW) (r := rc) (S := Finset.univ) (q := fullShare) (f := f) (Finset.subset_univ _)) $$ [Ho]
  · iexact Ho
  iintro Ho
  iapply (h _)
  isplitl [HP]; · iexact HP
  isplitl [Ho]; · iexact Ho
  iexact HR

/-- The device's own rows are stored. -/
theorem out_own (c : Dev nD) {P R : sProp 𝕄} {α : Type} {m : Memref sig .tc .vmem S1024x768 .f32} {rc : Rect S1024x768} {w : rc.shape.Idx → Elt F .f32}
    {Mk : Finset rc.shape.Idx} {hx : (m.access rc).Stores Mk} {hm}
    {k : PUnit → Prog (TpuEff nD τ sig (Elt F) Λ₀ .tc) α} {Q : α → sProp 𝕄} {f : Vec F S1024x768 .f32}
    (em : m = oW) (er : rc = Rect.unit (s := S1024x768) (k0_off3 c) S32x768.size (k0_off3_inb c)) (ew : HEq w (accV I c)) (eM : Mk = Finset.univ)
    (h : iprop(P ∗ Out I c 0 ∗ R) ⊢ Run c (k ⟨⟩) Q) :
    iprop(P ∗ oPt c f ∗ R) ⊢ Run c (.op (.store m rc w Mk hx hm) k) Q := by
  subst em er eM
  obtain rfl := eq_of_heq ew
  unfold Out oPt at *
  iintro ⟨HP, Ho, HR⟩
  iapply (wp_store 𝒱₀ (c : Thread nD τ) none Set.univ (m := oW) (S := Finset.univ) (f := f) (Finset.subset_univ _)) $$ [Ho]
  · iexact Ho
  iintro Ho
  iapply h
  isplitl [HP]; · iexact HP
  isplitl [Ho]
  · iexists _
    isplitl [Ho]; · iexact Ho
    ipureintro
    intro i hi
    refine (ostore c (off3 c) (k0_off3_inb c) f (accV I c) i).trans ?_
    rcases hi with hi | ⟨j, hj, -⟩
    · unfold outV
      rw [if_pos hi, if_pos hi]
    · exact absurd hj (Nat.not_lt_zero _)
  iexact HR

theorem out_load (c : Dev nD) (o : ℕ) {P R : sProp 𝕄} {α : Type} {m : Memref sig .tc .vmem S1024x768 .f32} {rc : Rect S1024x768} {hl : m.view.LoadsAt rc}
    {k : (rc.shape.Idx → Elt F .f32) → Prog (TpuEff nD τ sig (Elt F) Λ₀ .tc) α} {Q : α → sProp 𝕄}
    (em : m = oW) (h : ∀ v, iprop(P ∗ Out I c o ∗ R) ⊢ Run c (k v) Q) :
    iprop(P ∗ Out I c o ∗ R) ⊢ Run c (.op (.load m rc hl) k) Q := by
  subst em
  unfold Out oPt at *
  iintro ⟨HP, ⟨%f, Ho, %hf⟩, HR⟩
  iapply (wp_load_rect 𝒱₀ (c : Thread nD τ) none Set.univ (m := oW) (r := rc) (S := Finset.univ) (q := fullShare) (f := f) (Finset.subset_univ _)) $$ [Ho]
  · iexact Ho
  iintro Ho
  iapply (h _)
  isplitl [HP]; · iexact HP
  isplitl [Ho]
  · iexists f
    isplitl [Ho]; · iexact Ho
    ipureintro; exact hf
  iexact HR

/-- One more block of gathered rows is stored. -/
theorem out_store (c : Dev nD) (o : ℕ) (ho : o < 31) {P R : sProp 𝕄} {α : Type} {m : Memref sig .tc .vmem S1024x768 .f32} {rc : Rect S1024x768} {w : rc.shape.Idx → Elt F .f32}
    {Mk : Finset rc.shape.Idx} {hx : (m.access rc).Stores Mk} {hm}
    {k : PUnit → Prog (TpuEff nD τ sig (Elt F) Λ₀ .tc) α} {Q : α → sProp 𝕄}
    (em : m = oW) (er : rc = Rect.unit (s := S1024x768) (k0_off6 c (BitVec.ofNat 32 (1 + o))) S32x768.size (k0_off6_inb c ⟨o, ho⟩))
    (ew : HEq w (extf .f32 (gC I (nxt c (30 - o))) bitsLt_bf16_f32 : FVec F S32x768 .f32)) (eM : Mk = Finset.univ)
    (h : iprop(P ∗ Out I c (o + 1) ∗ R) ⊢ Run c (k ⟨⟩) Q) :
    iprop(P ∗ Out I c o ∗ R) ⊢ Run c (.op (.store m rc w Mk hx hm) k) Q := by
  subst em er eM
  obtain rfl := eq_of_heq ew
  unfold Out oPt at *
  iintro ⟨HP, ⟨%f, Ho, %hf⟩, HR⟩
  iapply (wp_store 𝒱₀ (c : Thread nD τ) none Set.univ (m := oW) (S := Finset.univ) (f := f) (Finset.subset_univ _)) $$ [Ho]
  · iexact Ho
  iintro Ho
  iapply h
  isplitl [HP]; · iexact HP
  isplitl [Ho]
  · iexists _
    isplitl [Ho]; · iexact Ho
    ipureintro
    intro i hi
    refine (ostore (nxt c (30 - o)) (off6 c ⟨o, ho⟩) (k0_off6_inb c ⟨o, ho⟩) f (extf .f32 (gC I (nxt c (30 - o))) bitsLt_bf16_f32) i).trans ?_
    by_cases hd : rowDev i = nxt c (30 - o)
    · rw [if_pos hd]
      unfold outV
      rw [if_neg (fun h' => nxt_ne c (lt31r o) (hd.symm.trans h')), hd]
    · rw [if_neg hd]
      refine hf i (hi.imp id ?_)
      rintro ⟨j, hj, hj'⟩
      exact ⟨j, lt_of_le_of_ne (Nat.le_of_lt_succ hj) (fun he => hd (he ▸ hj')), hj'⟩
  iexact HR

/-! ## The transfers of gathered rows -/

def agA (c : Dev nD) (j : Fin 31) : sProp 𝕄 :=
  iprop(dutyTok ER (dCell c (68 + j.val) (lt68 j.isLt)) 0 0 ∗ dutyTok ER (dCell (nxt c j.val) (99 + (30 - j.val)) (lt99r _)) 0 0
    ∗ reached ER (dCell (nxt c j.val) (99 + (30 - j.val)) (lt99r _)) 0
    ∗ (∃ f, gPt (nxt c j.val) (ck c) fullShare f) ∗ gPt c (ck c) (lf j.val) (gV I) ∗ atPos ER (dCell c (68 + j.val) (lt68 j.isLt)) 0 ∅ 0)
def agB (c : Dev nD) (j : Fin 31) : sProp 𝕄 := Pend c (68 + j.val) (lt68 j.isLt) N
def agC (c : Dev nD) (j : Fin 31) : sProp 𝕄 :=
  iprop(dmaPay I c (68 + j.val) ∗ atPos ER (dCell c (68 + j.val) (lt68 j.isLt)) (0 + 1) ∅ 0)
def avB (c : Dev nD) (j : Fin 31) : sProp 𝕄 := Pend c (99 + (30 - j.val)) (lt99r _) N
def avC (c : Dev nD) (j : Fin 31) : sProp 𝕄 :=
  iprop(dmaPay I c (99 + (30 - j.val)) ∗ atPos ER (dCell c (99 + (30 - j.val)) (lt99r _)) (0 + 1) ∅ 0)

/-- After `s` sends, `w` waits for them and `r` receipts. -/
def AG (c : Dev nD) (s w r : ℕ) : sProp 𝕄 :=
  iprop((Cx I κ c ∗ Ow c 31 31 s) ∗ life (agA I c) (agB c) (agC I c) s w ∗ life (avB c) (avB c) (avC I c) 31 r)

theorem gPt_gM (d c : Dev nD) (q : PosShare TreeShare) (f : Vec F S1024x768 .bf16) :
    (gPt d (ck c) q f : sProp 𝕄) = ((gM c).view.loc (d : Thread nD τ) ↦[(gM c).view.set]{q} f) := by
  rw [gM_set]; rfl
theorem gPt_access (d : Dev nD) (S : Finset S1024x768.Idx) (q : PosShare TreeShare) (rc : Rect S1024x768) (f : Vec F S1024x768 .bf16) :
    (gPt d S q f : sProp 𝕄) = ((gW.access rc).loc (d : Thread nD τ) ↦[S]{q} f) := rfl

theorem ag_send (c : Dev nD) (s w r : ℕ) (hs : s < 31) (hw : w ≤ s) {R : sProp 𝕄} {α : Type} {dv : ℕ} {hlt : dv < 32}
    {src : Memref sig .tc .vmem S32x768 .bf16} {dst : Memref sig .tc .vmem S32x768 .bf16} {sS sR : DmaSem sig} {hsc}
    {h₁ : src.view.WordExact} {h₂ : dst.view.WordExact} {h₃ : DmaTarget.Typed (nD := nD) .vmem (.dma sR) (.remote ((⟨dv, hlt⟩ : Dev nD) : Thread nD τ) dst (.dma sS) hsc)}
    {k : PUnit → Prog (TpuEff nD τ sig (Elt F) Λ₀ .tc) α} {Q : α → sProp 𝕄}
    (hd : dv = (nxt c s).val) (e₁ : src = gM c) (e₂ : dst = gM c) (e₃ : sS = dS (68 + s) (lt68 hs)) (e₄ : sR = dS (99 + (30 - s)) (lt99r s))
    (h : iprop(AG I κ c (s + 1) w r ∗ R) ⊢ Run c (k ⟨⟩) Q) :
    iprop(AG I κ c s w r ∗ R) ⊢ Run c (.op (.enqueueDma src (.remote ((⟨dv, hlt⟩ : Dev nD) : Thread nD τ) dst (.dma sS) hsc) (.dma sR) h₁ h₂ h₃) k) Q := by
  subst hd e₁ e₂ e₃ e₄
  unfold AG Ow at *
  iintro ⟨⟨⟨#HC, ⟨%W, HO⟩⟩, HL, HV⟩, HR⟩
  ihave HL' := (life_start s w hs hw) $$ HL
  icases HL' with ⟨HA, HL⟩
  unfold agA agB Pend
  icases HA with ⟨HtS, HtN, #HrN, ⟨%fd, Hd⟩, Hp, Ha⟩
  iapply (Rounds.wp_send_pointsTo 𝒱₀ ER (sched I) (c : Thread nD τ) none (c' := (nxt c s : Thread nD τ)) (src := gM c) (dst := gM c)
      (sS := .dma (dS (68 + s) (lt68 hs))) (sem := .dma (dS (99 + (30 - s)) (lt99r s))) (q := lf s) (fs := gV I)
      (κ₁ := κ (dCell c (68 + s) (lt68 hs))) (κ₂ := κ (dCell (nxt c s) (99 + (30 - s)) (lt99r s)))
      (r₁ := 0) (r₂ := 0) (d₁ := 0) (d₂ := 0) (fd := fd)
      (by rw [duties_dma I c _ _ (by omega)]; exact Finset.mem_singleton_self _) (by rw [duties_dma I (nxt c s) _ _ (by omega)]; exact Finset.mem_singleton_self _)
      () () N rfl (amount_dma I c _ _ (by omega) 0) (amount_dma I (nxt c s) _ _ (by omega) 0) (owe c 31 31 (s + 1)) (owe_g c 31 31 s hs) (W := W)
      (by
        rw [payload_dma, dmaPay_agS I c hs, gM_set c]
        exact BI.Entails.refl _)
      (by
        rw [payload_dma, dmaPay_agR I (nxt c s) (lt31r s), nxt_back c s hs]
        rw [gM_set c, pointsTo_congr (ag_land I c fd)]
        exact BI.Entails.refl _)) $$ [Hp Hd HO HtS HtN]
  · isplitr; · iapply (cx_dma I κ c c (68 + s) (lt68 hs) (by omega)); iexact HC
    isplitr; · iapply (cx_dma I κ c (nxt c s) (99 + (30 - s)) (lt99r s) (by omega)); iexact HC
    isplitl [Hp]; · iapply (Entails.of_eq (gPt_gM c c (lf s) (gV I))); iexact Hp
    isplitl [Hd]; · iapply (Entails.of_eq (gPt_gM (nxt c s) c fullShare fd)); iexact Hd
    isplitl [HO]; · iexact HO
    isplitl [HtS]; · iexact HtS
    isplitr; · iapply (cx_dmaR I κ c (68 + s) (lt68 hs) (by omega)); iexact HC
    isplitl [HtN]; · iexact HtN
    iexact HrN
  iintro ⟨Hc, HO⟩
  iapply h
  isplitr [HR]
  · isplitl [HO]
    · isplitr; · iexact HC
      iexists W; iexact HO
    isplitl [HL Hc Ha]
    · iapply HL
      isplitl [Hc]; · iexact Hc
      iexact Ha
    iexact HV
  iexact HR

theorem ag_recv (c : Dev nD) (s w r : ℕ) (hr : r < 31) (hs : r < s) {R : sProp 𝕄} {α : Type}
    {src : Memref sig .tc .vmem S32x768 .bf16} {dst : Memref sig .tc .vmem S32x768 .bf16} {sm : DmaSem sig}
    {h₁ : src.view.WordExact} {h₂ : dst.view.WordExact}
    {k : PUnit → Prog (TpuEff nD τ sig (Elt F) Λ₀ .tc) α} {Q : α → sProp 𝕄}
    (e : sm = dS (99 + (30 - r)) (lt99r r)) (hd : dst.view.dmaCredit = N)
    (h : iprop(AG I κ c s w (r + 1) ∗ R) ⊢ Run c (k ⟨⟩) Q) :
    iprop(AG I κ c s w r ∗ R) ⊢ Run c (.op (.waitDma2 sm src dst h₁ h₂) k) Q := by
  refine BIBase.Entails.trans (?_ : _ ⊢ iprop((Cx I κ c ∗ Ow c 31 31 s) ∗ Pend c (99 + (30 - r)) (lt99r r) N
    ∗ ((avC I c ⟨r, hr⟩ -∗ life (avB c) (avB c) (avC I c) 31 (r + 1)) ∗ life (agA I c) (agB c) (agC I c) s w ∗ R))) ?_
  · unfold AG
    iintro ⟨⟨HX, HL, HV⟩, HR⟩
    ihave HV' := (life_finish 31 r hr hr) $$ HV
    icases HV' with ⟨HB, HV⟩
    unfold avB
    isplitl [HX]; · iexact HX
    isplitl [HB]; · iexact HB
    isplitl [HV]; · iexact HV
    isplitl [HL]; · iexact HL
    iexact HR
  refine dma_wait I κ c (99 + (30 - r)) (lt99r r) (by omega) 31 31 s (100 + r) N (expect_dma I c _ _ (by omega)).symm
    (by rw [lv_dma, if_neg (by omega), if_neg (by omega), if_neg (by omega)]; omega) (.inl (Nat.le_refl _)) (.inl (Nat.le_refl _)) (.inr (by omega)) e hd
    (BIBase.Entails.trans ?_ h)
  unfold AG
  iintro ⟨HX, HP, HV, HL, HR⟩
  isplitr [HR]
  · isplitl [HX]; · iexact HX
    isplitl [HL]; · iexact HL
    iapply HV
    unfold avC
    iexact HP
  iexact HR

theorem ag_back (c : Dev nD) (s w r : ℕ) (hw : w < 31) (hs : w < s) {R : sProp 𝕄} {α : Type}
    {src : Memref sig .tc .vmem S32x768 .bf16} {dst : Memref sig .tc .vmem S32x768 .bf16} {sm : DmaSem sig}
    {h₁ : src.view.WordExact} {h₂ : dst.view.WordExact}
    {k : PUnit → Prog (TpuEff nD τ sig (Elt F) Λ₀ .tc) α} {Q : α → sProp 𝕄}
    (e : sm = dS (68 + w) (lt68 hw)) (hd : dst.view.dmaCredit = N)
    (h : iprop(AG I κ c s (w + 1) r ∗ R) ⊢ Run c (k ⟨⟩) Q) :
    iprop(AG I κ c s w r ∗ R) ⊢ Run c (.op (.waitDma2 sm src dst h₁ h₂) k) Q := by
  refine BIBase.Entails.trans (?_ : _ ⊢ iprop((Cx I κ c ∗ Ow c 31 31 s) ∗ Pend c (68 + w) (lt68 hw) N
    ∗ ((agC I c ⟨w, hw⟩ -∗ life (agA I c) (agB c) (agC I c) s (w + 1)) ∗ life (avB c) (avB c) (avC I c) 31 r ∗ R))) ?_
  · unfold AG
    iintro ⟨⟨HX, HL, HV⟩, HR⟩
    ihave HL' := (life_finish s w hw hs) $$ HL
    icases HL' with ⟨HB, HL⟩
    unfold agB
    isplitl [HX]; · iexact HX
    isplitl [HB]; · iexact HB
    isplitl [HL]; · iexact HL
    isplitl [HV]; · iexact HV
    iexact HR
  refine dma_wait I κ c (68 + w) (lt68 hw) (by omega) 31 31 s 0 N (expect_dma I c _ _ (by omega)).symm
    (by rw [lv_dma, if_neg (by omega), if_neg (by omega), if_pos (by omega)]) (.inl (Nat.le_refl _)) (.inl (Nat.le_refl _)) (.inr (by omega)) e hd
    (BIBase.Entails.trans ?_ h)
  unfold AG
  iintro ⟨HX, HP, HL, HV, HR⟩
  isplitr [HR]
  · isplitl [HX]; · iexact HX
    isplitl [HP HL]
    · iapply HL
      unfold agC
      iexact HP
    iexact HV
  iexact HR

/-- The gathered rows are read after their receipt. -/
theorem ag_load (c : Dev nD) (s w r : ℕ) (i : ℕ) (hi : i < r) (hi' : i < 31) {R : sProp 𝕄} {α : Type}
    {m : Memref sig .tc .vmem S1024x768 .bf16} {rc : Rect S1024x768} {hl : m.view.LoadsAt rc}
    {k : (rc.shape.Idx → Elt F .bf16) → Prog (TpuEff nD τ sig (Elt F) Λ₀ .tc) α} {Q : α → sProp 𝕄}
    (em : m = gW) (er : rc = Rect.unit (s := S1024x768) (k0_off6 c (BitVec.ofNat 32 (1 + i))) S32x768.size (k0_off6_inb c ⟨i, hi'⟩))
    (h : iprop(AG I κ c s w r ∗ R) ⊢ Run c (k ((gW.access rc).read (Elt F) (gV I))) Q) :
    iprop(AG I κ c s w r ∗ R) ⊢ Run c (.op (.load m rc hl) k) Q := by
  subst em er
  have hS : (gW.access (Rect.unit (s := S1024x768) (k0_off6 c (BitVec.ofNat 32 (1 + i))) S32x768.size (k0_off6_inb c ⟨i, hi'⟩))).set = ck (nxt c (30 - i)) :=
    (View.set_slice_whole _ _).trans (rows_set _ (off6 c ⟨i, hi'⟩) _)
  refine BIBase.Entails.trans (?_ : _ ⊢ iprop(gPt c (ck (nxt c (30 - i))) fullShare (gV I) ∗ (gPt c (ck (nxt c (30 - i))) fullShare (gV I) -∗ (AG I κ c s w r ∗ R)))) ?_
  · unfold AG
    iintro ⟨⟨HX, HL, HV⟩, HR⟩
    ihave HV' := (life_peek 31 r ⟨i, hi'⟩ hi) $$ HV
    icases HV' with ⟨HC, HV⟩
    unfold avC
    rw [dmaPay_agR I c (lt31r i)]
    icases HC with ⟨Hp, Ha⟩
    isplitl [Hp]; · iexact Hp
    iintro Hp
    isplitr [HR]
    · isplitl [HX]; · iexact HX
      isplitl [HL]; · iexact HL
      iapply HV
      isplitl [Hp]; · iexact Hp
      iexact Ha
    iexact HR
  iintro ⟨Hp, HB⟩
  iapply (wp_load_rect 𝒱₀ (c : Thread nD τ) none Set.univ (S := ck (nxt c (30 - i))) (q := fullShare) (f := gV I) (Finset.subset_of_eq hS)) $$ [Hp]
  · iapply (Entails.of_eq (gPt_access c _ _ _ (gV I))); iexact Hp
  iintro Hp
  iapply h
  iapply HB
  iapply (Entails.of_eq (gPt_access c _ _ _ (gV I)).symm); iexact Hp

end Cert.KernelIdeal.Talk
-- ==== Proof.Local.lean ====
/-
  The steps that stay on one device: the copies of the weights, the loads and stores of the
  attention, and the regrouping of what is held between the phases.
-/
module

public import proofs.«01_k».proof.Proof.Steps

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (I : Ins F) (κ : GSem nD τ sig → ℕ)

theorem run_ret (c : Dev nD) {P : sProp 𝕄} {α : Type} {a : α} {Q : α → sProp 𝕄} (h : P ⊢ Q a) : P ⊢ Run c (.ret a) Q := by
  unfold Run
  iintro H
  rw [wp_ret]
  imodintro
  iapply h
  iexact H

/-- A part of a program, met with what follows it out of sight. -/
theorem run_part (c : Dev nD) {P : sProp 𝕄} {α β : Type} {p : Prog (TpuEff nD τ sig (Elt F) Λ₀ .tc) β} {k : β → Prog (TpuEff nD τ sig (Elt F) Λ₀ .tc) α} {Q : α → sProp 𝕄}
    (h : ∀ K : β → sProp 𝕄, (∀ a, K a = Run c (k a) Q) → P ⊢ Run c p K) : P ⊢ Run c (p >>= k) Q := by
  unfold Run at *
  rw [wp_bind]
  exact h _ fun _ => rfl

/-! ## The loads of the attention -/

def xPt (c : Dev nD) (f : Vec F S2x512x768 .f32) : sProp 𝕄 := xW.view.loc (c : Thread nD τ) ↦[Finset.univ]{fullShare} f
def kPt (c : Dev nD) (f : Vec F S2x8x512x64 .f32) : sProp 𝕄 := kW.view.loc (c : Thread nD τ) ↦[Finset.univ]{fullShare} f
def vPt (c : Dev nD) (f : Vec F S2x8x512x64 .f32) : sProp 𝕄 := vW.view.loc (c : Thread nD τ) ↦[Finset.univ]{fullShare} f

/-- The buffers the attention reads. -/
def At (c : Dev nD) : sProp 𝕄 :=
  iprop(xPt c (I.x c) ∗ kPt c (I.k c) ∗ vPt c (I.v c) ∗ aPt c (wqS I c) ∗ bPt c (woS I c))

theorem load_of (c : Dev nD) {P : sProp 𝕄} {α : Type} {cs : CoreSpace} {s : Shape} {e : EltTy} {m : Memref sig .tc cs s e} {rc : Rect s} {hl : m.view.LoadsAt rc}
    {k : (rc.shape.Idx → Elt F e) → Prog (TpuEff nD τ sig (Elt F) Λ₀ .tc) α} {Q : α → sProp 𝕄}
    {S : Finset (Idx ((m.access rc).loc (c : Thread nD τ)))} {q : PosShare TreeShare} {f : Buf (Elt F) ((m.access rc).loc (c : Thread nD τ))}
    (hS : (m.access rc).set ⊆ S)
    (hP : P ⊢ iprop(((m.access rc).loc (c : Thread nD τ) ↦[S]{q} f) ∗ (((m.access rc).loc (c : Thread nD τ) ↦[S]{q} f) -∗ P)))
    (h : P ⊢ Run c (k ((m.access rc).read (Elt F) f)) Q) :
    P ⊢ Run c (.op (.load m rc hl) k) Q := by
  refine BIBase.Entails.trans hP ?_
  iintro ⟨Hp, HB⟩
  iapply (wp_load_rect 𝒱₀ (c : Thread nD τ) none Set.univ (S := S) (q := q) (f := f) hS) $$ [Hp]
  · iexact Hp
  iintro Hp
  iapply h
  iapply HB
  iexact Hp

theorem at_x (c : Dev nD) {P R : sProp 𝕄} {α : Type} {rc : Rect S2x512x768} {hl : xW.view.LoadsAt rc}
    {k : (rc.shape.Idx → Elt F .f32) → Prog (TpuEff nD τ sig (Elt F) Λ₀ .tc) α} {Q : α → sProp 𝕄}
    (h : iprop(P ∗ At I c ∗ R) ⊢ Run c (k ((xW.access rc).read (Elt F) (I.x c))) Q) :
    iprop(P ∗ At I c ∗ R) ⊢ Run c (.op (.load xW rc hl) k) Q := by
  refine load_of c (S := Finset.univ) (q := fullShare) (f := I.x c) (Finset.subset_univ _) ?_ h
  unfold At xPt
  iintro ⟨HP, ⟨Hx, HA⟩, HR⟩
  isplitl [Hx]; · iexact Hx
  iintro Hx
  isplitl [HP]; · iexact HP
  isplitl [Hx HA]
  · isplitl [Hx]; · iexact Hx
    iexact HA
  iexact HR

theorem at_k (c : Dev nD) {P R : sProp 𝕄} {α : Type} {rc : Rect S2x8x512x64} {hl : kW.view.LoadsAt rc}
    {k : (rc.shape.Idx → Elt F .f32) → Prog (TpuEff nD τ sig (Elt F) Λ₀ .tc) α} {Q : α → sProp 𝕄}
    (h : iprop(P ∗ At I c ∗ R) ⊢ Run c (k ((kW.access rc).read (Elt F) (I.k c))) Q) :
    iprop(P ∗ At I c ∗ R) ⊢ Run c (.op (.load kW rc hl) k) Q := by
  refine load_of c (S := Finset.univ) (q := fullShare) (f := I.k c) (Finset.subset_univ _) ?_ h
  unfold At kPt
  iintro ⟨HP, ⟨Hx, Hk, HA⟩, HR⟩
  isplitl [Hk]; · iexact Hk
  iintro Hk
  isplitl [HP]; · iexact HP
  isplitl [Hx Hk HA]
  · isplitl [Hx]; · iexact Hx
    isplitl [Hk]; · iexact Hk
    iexact HA
  iexact HR

theorem at_v (c : Dev nD) {P R : sProp 𝕄} {α : Type} {rc : Rect S2x8x512x64} {hl : vW.view.LoadsAt rc}
    {k : (rc.shape.Idx → Elt F .f32) → Prog (TpuEff nD τ sig (Elt F) Λ₀ .tc) α} {Q : α → sProp 𝕄}
    (h : iprop(P ∗ At I c ∗ R) ⊢ Run c (k ((vW.access rc).read (Elt F) (I.v c))) Q) :
    iprop(P ∗ At I c ∗ R) ⊢ Run c (.op (.load vW rc hl) k) Q := by
  refine load_of c (S := Finset.univ) (q := fullShare) (f := I.v c) (Finset.subset_univ _) ?_ h
  unfold At vPt
  iintro ⟨HP, ⟨Hx, Hk, Hv, HA⟩, HR⟩
  isplitl [Hv]; · iexact Hv
  iintro Hv
  isplitl [HP]; · iexact HP
  isplitl [Hx Hk Hv HA]
  · isplitl [Hx]; · iexact Hx
    isplitl [Hk]; · iexact Hk
    isplitl [Hv]; · iexact Hv
    iexact HA
  iexact HR

theorem at_a (c : Dev nD) {P R : sProp 𝕄} {α : Type} {rc : Rect S768x512} {hl : aW.view.LoadsAt rc}
    {k : (rc.shape.Idx → Elt F .f32) → Prog (TpuEff nD τ sig (Elt F) Λ₀ .tc) α} {Q : α → sProp 𝕄}
    (h : iprop(P ∗ At I c ∗ R) ⊢ Run c (k ((aW.access rc).read (Elt F) (wqS I c))) Q) :
    iprop(P ∗ At I c ∗ R) ⊢ Run c (.op (.load aW rc hl) k) Q := by
  refine load_of c (S := Finset.univ) (q := fullShare) (f := wqS I c) (Finset.subset_univ _) ?_ h
  unfold At aPt
  iintro ⟨HP, ⟨Hx, Hk, Hv, Ha, HA⟩, HR⟩
  isplitl [Ha]; · iexact Ha
  iintro Ha
  isplitl [HP]; · iexact HP
  isplitl [Hx Hk Hv Ha HA]
  · isplitl [Hx]; · iexact Hx
    isplitl [Hk]; · iexact Hk
    isplitl [Hv]; · iexact Hv
    isplitl [Ha]; · iexact Ha
    iexact HA
  iexact HR

theorem at_b (c : Dev nD) {P R : sProp 𝕄} {α : Type} {rc : Rect S512x768} {hl : bW.view.LoadsAt rc}
    {k : (rc.shape.Idx → Elt F .f32) → Prog (TpuEff nD τ sig (Elt F) Λ₀ .tc) α} {Q : α → sProp 𝕄}
    (h : iprop(P ∗ At I c ∗ R) ⊢ Run c (k ((bW.access rc).read (Elt F) (woS I c))) Q) :
    iprop(P ∗ At I c ∗ R) ⊢ Run c (.op (.load bW rc hl) k) Q := by
  refine load_of c (S := Finset.univ) (q := fullShare) (f := woS I c) (Finset.subset_univ _) ?_ h
  unfold At bPt
  iintro ⟨HP, ⟨Hx, Hk, Hv, Ha, Hb⟩, HR⟩
  isplitl [Hb]; · iexact Hb
  iintro Hb
  isplitl [HP]; · iexact HP
  isplitr [HR]
  · isplitl [Hx]; · iexact Hx
    isplitl [Hk]; · iexact Hk
    isplitl [Hv]; · iexact Hv
    isplitl [Ha]; · iexact Ha
    iexact Hb
  iexact HR

/-! ## The partial products -/

/-- The partial products' buffer is read where a store is to overwrite it, and overwritten. -/
theorem p_load (c : Dev nD) {P T R : sProp 𝕄} {α : Type} {rc : Rect S1024x768} {hl : pW.view.LoadsAt rc} {f : Vec F S1024x768 .bf16}
    {k : (rc.shape.Idx → Elt F .bf16) → Prog (TpuEff nD τ sig (Elt F) Λ₀ .tc) α} {Q : α → sProp 𝕄}
    (h : iprop(P ∗ T ∗ pPt c Finset.univ f ∗ R) ⊢ Run c (k ((pW.access rc).read (Elt F) f)) Q) :
    iprop(P ∗ T ∗ pPt c Finset.univ f ∗ R) ⊢ Run c (.op (.load pW rc hl) k) Q := by
  refine load_of c (S := Finset.univ) (q := fullShare) (f := f) (Finset.subset_univ _) ?_ h
  unfold pPt
  iintro ⟨HP, HT, Hp, HR⟩
  isplitl [Hp]; · iexact Hp
  iintro Hp
  isplitl [HP]; · iexact HP
  isplitl [HT]; · iexact HT
  isplitl [Hp]; · iexact Hp
  iexact HR

theorem p_store (c : Dev nD) {P T R : sProp 𝕄} {α : Type} {rc : Rect S1024x768} {w : rc.shape.Idx → Elt F .bf16} {hx : (pW.access rc).Stores Finset.univ} {hm}
    {f : Vec F S1024x768 .bf16} {k : PUnit → Prog (TpuEff nD τ sig (Elt F) Λ₀ .tc) α} {Q : α → sProp 𝕄}
    (h : iprop(P ∗ T ∗ pPt c Finset.univ ((pW.access rc).write (Elt F) f w Finset.univ) ∗ R) ⊢ Run c (k ⟨⟩) Q) :
    iprop(P ∗ T ∗ pPt c Finset.univ f ∗ R) ⊢ Run c (.op (.store pW rc w Finset.univ hx hm) k) Q := by
  unfold pPt at *
  iintro ⟨HP, HT, Hp, HR⟩
  iapply (wp_store 𝒱₀ (c : Thread nD τ) none Set.univ (m := pW) (S := Finset.univ) (f := f) (Finset.subset_univ _)) $$ [Hp]
  · iexact Hp
  iintro Hp
  iapply h
  isplitl [HP]; · iexact HP
  isplitl [HT]; · iexact HT
  isplitl [Hp]; · iexact Hp
  iexact HR

/-- A store of 512 rows of the partial products. -/
theorem p_half {off : Fin 2 → ℕ} (o : ℕ) (h : off = ![o, 0]) (inb) (f : Vec F S1024x768 .bf16) (w : FVec F S512x768 .bf16) (y : S1024x768.Idx) :
    (pW.access (Rect.unit (s := S1024x768) off S512x768.size inb)).write (Elt F) f w Finset.univ y
      = if h : o ≤ (y 0).val ∧ (y 0).val - o < 512 then w (ix2 ⟨(y 0).val - o, h.2⟩ (y 1)) else f y := by
  subst h
  by_cases hy : o ≤ (y 0).val ∧ (y 0).val - o < 512
  · rw [dif_pos hy]
    refine write_at (pW.access (Rect.unit (s := S1024x768) ![o, 0] S512x768.size inb)) f w (x := (ix2 ⟨(y 0).val - o, hy.2⟩ (y 1) : S512x768.Idx)) ?_
    funext a
    match a with
    | 0 => apply Fin.ext; show o + 1 * ((y 0).val - o) = (y 0).val; omega
    | 1 => apply Fin.ext; show 0 + 1 * (y 1).val = (y 1).val; omega
  · rw [dif_neg hy]
    refine View.write_of_not_mem (v := pW.access (Rect.unit (s := S1024x768) ![o, 0] S512x768.size inb)) f w _ (fun h' => hy ?_)
    have hs : (pW.access (Rect.unit (s := S1024x768) ![o, 0] S512x768.size inb)).set = (Rect.unit (s := S1024x768) ![o, 0] S512x768.size inb).set :=
      View.set_slice_whole _ _
    rw [View.setOn_univ] at h'
    have hm : y ∈ (Rect.unit (s := S1024x768) ![o, 0] S512x768.size inb).set := hs ▸ h'
    have h0 : o ≤ (y 0).val ∧ (y 0).val < o + 512 := (Rect.mem_set_unit.mp hm) 0
    omega

/-- The two stores make the partial products. -/
theorem p_stored (c : Dev nD) (f : Vec F S1024x768 .bf16) (h0 h1) (w0 w1 : FVec F S512x768 .bf16) (e0 : w0 = partB I c 0) (e1 : w1 = partB I c 1) :
    (pW.access (Rect.unit (s := S1024x768) ![512, 0] S512x768.size h1)).write (Elt F)
      ((pW.access (Rect.unit (s := S1024x768) ![0, 0] S512x768.size h0)).write (Elt F) f w0 Finset.univ) w1 Finset.univ = pV I c := by
  subst e0 e1
  funext y
  have hy : (y 0).val < 1024 := (y 0).isLt
  refine (p_half 512 rfl h1 _ (partB I c 1) y).trans ?_
  unfold pV
  by_cases h : (y 0).val < 512
  · rw [dif_neg (by omega), dif_pos h]
    refine (p_half 0 rfl h0 f (partB I c 0) y).trans ?_
    rw [dif_pos ⟨Nat.zero_le _, h⟩]
    rfl
  · rw [dif_neg h, dif_pos (by omega)]

/-! ## The device's own rows of the gathered buffer -/

theorem g_load (c : Dev nD) {P R : sProp 𝕄} {α : Type} {hl} {f : Vec F S1024x768 .bf16}
    {k : (S32x768.Idx → Elt F .bf16) → Prog (TpuEff nD τ sig (Elt F) Λ₀ .tc) α} {Q : α → sProp 𝕄}
    (h : ∀ v, iprop(P ∗ gPt c (ck c) fullShare f ∗ R) ⊢ Run c (k v) Q) :
    iprop(P ∗ gPt c (ck c) fullShare f ∗ R)
      ⊢ Run c (.op (.load gW (Rect.unit (s := S1024x768) (k0_off3 c) S32x768.size (k0_off3_inb c)).toLoadRect hl) k) Q := by
  have hS : (gW.access (Rect.unit (s := S1024x768) (k0_off3 c) S32x768.size (k0_off3_inb c))).set = ck c :=
    (View.set_slice_whole _ _).trans (rows_set _ (off3 c) _)
  refine load_of c (S := ck c) (q := fullShare) (f := f) (Finset.subset_of_eq hS) ?_ (h _)
  unfold gPt
  iintro ⟨HP, Hp, HR⟩
  isplitl [Hp]; · iexact Hp
  iintro Hp
  isplitl [HP]; · iexact HP
  isplitl [Hp]; · iexact Hp
  iexact HR

theorem g_store (c : Dev nD) {P R : sProp 𝕄} {α : Type} {w : S32x768.Idx → Elt F .bf16}
    {hx : (gW.access (Rect.unit (s := S1024x768) (k0_off3 c) S32x768.size (k0_off3_inb c))).Stores Finset.univ} {hm}
    {f : Vec F S1024x768 .bf16} {k : PUnit → Prog (TpuEff nD τ sig (Elt F) Λ₀ .tc) α} {Q : α → sProp 𝕄} (ew : w = gC I c)
    (h : iprop(P ∗ gPt c (ck c) fullShare (gV I) ∗ R) ⊢ Run c (k ⟨⟩) Q) :
    iprop(P ∗ gPt c (ck c) fullShare f ∗ R)
      ⊢ Run c (.op (.store gW (Rect.unit (s := S1024x768) (k0_off3 c) S32x768.size (k0_off3_inb c)) w Finset.univ hx hm) k) Q := by
  subst ew
  have hS : (gW.access (Rect.unit (s := S1024x768) (k0_off3 c) S32x768.size (k0_off3_inb c))).set = ck c :=
    (View.set_slice_whole _ _).trans (rows_set _ (off3 c) _)
  have hG : gPt c (ck c) fullShare ((gW.access (Rect.unit (s := S1024x768) (k0_off3 c) S32x768.size (k0_off3_inb c))).write (Elt F) f (gC I c) Finset.univ)
      = gPt c (ck c) fullShare (gV I) := pointsTo_congr (gstore I c f)
  rw [← hG] at h
  unfold gPt at *
  iintro ⟨HP, Hp, HR⟩
  iapply (wp_store 𝒱₀ (c : Thread nD τ) none Set.univ (m := gW) (r := Rect.unit (s := S1024x768) (k0_off3 c) S32x768.size (k0_off3_inb c)) (S := ck c) (f := f)
    (Finset.subset_of_eq ((View.setOn_univ _).trans hS))) $$ [Hp]
  · iexact Hp
  iintro Hp
  iapply h
  isplitl [HP]; · iexact HP
  isplitl [Hp]; · iexact Hp
  iexact HR

/-! ## The copies of the weights -/

theorem lt4 : 4 < 130 := by decide
theorem lt5 : 5 < 130 := by decide

/-- What the two copies need. -/
def wgA (c : Dev nD) : sProp 𝕄 :=
  iprop(dutyTok ER (dCell c 4 lt4) 0 0 ∗ (∃ f, aPt c f) ∗ qPt c (qM c).view.set (I.wq c) ∗ atPos ER (dCell c 4 lt4) 0 ∅ 0)
def wgB (c : Dev nD) : sProp 𝕄 :=
  iprop(dutyTok ER (dCell c 5 lt5) 0 0 ∗ (∃ f, bPt c f) ∗ wPt c (wM c).view.set (I.wo c) ∗ atPos ER (dCell c 5 lt5) 0 ∅ 0)

theorem copy_a (c : Dev nD) {R : sProp 𝕄} {O : sProp 𝕄} {α : Type} {src : Memref sig .tc .hbm S768x512 .f32} {dst : Memref sig .tc .vmem S768x512 .f32} {sm : DmaSem sig}
    {h₁ : src.view.WordExact} {h₂ : dst.view.WordExact} {h₃}
    {k : PUnit → Prog (TpuEff nD τ sig (Elt F) Λ₀ .tc) α} {Q : α → sProp 𝕄}
    (e₁ : src = qM c) (e₂ : dst = aW) (e₃ : sm = dS 4 lt4)
    (h : iprop((Cx I κ c ∗ O) ∗ Pend c 4 lt4 Na ∗ R) ⊢ Run c (k ⟨⟩) Q) :
    iprop((Cx I κ c ∗ O) ∗ wgA I c ∗ R) ⊢ Run c (.op (.enqueueDma src (.here dst) (.dma sm) h₁ h₂ h₃) k) Q := by
  subst e₁ e₂ e₃
  unfold wgA Pend at *
  iintro ⟨⟨#HC, HO⟩, ⟨Ht, ⟨%f, Ha⟩, Hq, Hp⟩, HR⟩
  iapply (Rounds.wp_copy_pointsTo 𝒱₀ ER (sched I) (c : Thread nD τ) none (src := qM c) (dst := aW) (sem := .dma (dS 4 lt4)) (q := fullShare)
      (fs := I.wq c) (fd := f) (r := 0) (d := 0) (κ := κ (dCell c 4 lt4))
      (by rw [duties_dma I c _ _ (by decide)]; exact Finset.mem_singleton_self _) () Na rfl (amount_a I c 0)
      (by
        rw [payload_dma, dmaPay_a, View.set_whole, View.write_whole_univ]
        exact BI.Entails.refl _)) $$ [Ht Ha Hq]
  · isplitr; · iapply (cx_dma I κ c c 4 lt4 (by decide)); iexact HC
    isplitl [Hq]; · unfold qPt; iexact Hq
    isplitl [Ha]; · unfold aPt; rw [View.set_whole]; iexact Ha
    isplitl [Ht]; · iexact Ht
    iapply (cx_dmaR I κ c 4 lt4 (by decide)); iexact HC
  iintro Hc
  iapply h
  isplitl [HO]
  · isplitr; · iexact HC
    iexact HO
  isplitl [Hc Hp]
  · isplitl [Hc]; · iexact Hc
    iexact Hp
  iexact HR

theorem copy_b (c : Dev nD) {R : sProp 𝕄} {O : sProp 𝕄} {α : Type} {src : Memref sig .tc .hbm S512x768 .f32} {dst : Memref sig .tc .vmem S512x768 .f32} {sm : DmaSem sig}
    {h₁ : src.view.WordExact} {h₂ : dst.view.WordExact} {h₃}
    {k : PUnit → Prog (TpuEff nD τ sig (Elt F) Λ₀ .tc) α} {Q : α → sProp 𝕄}
    (e₁ : src = wM c) (e₂ : dst = bW) (e₃ : sm = dS 5 lt5)
    (h : iprop((Cx I κ c ∗ O) ∗ Pend c 5 lt5 Nb ∗ R) ⊢ Run c (k ⟨⟩) Q) :
    iprop((Cx I κ c ∗ O) ∗ wgB I c ∗ R) ⊢ Run c (.op (.enqueueDma src (.here dst) (.dma sm) h₁ h₂ h₃) k) Q := by
  subst e₁ e₂ e₃
  unfold wgB Pend at *
  iintro ⟨⟨#HC, HO⟩, ⟨Ht, ⟨%f, Ha⟩, Hq, Hp⟩, HR⟩
  iapply (Rounds.wp_copy_pointsTo 𝒱₀ ER (sched I) (c : Thread nD τ) none (src := wM c) (dst := bW) (sem := .dma (dS 5 lt5)) (q := fullShare)
      (fs := I.wo c) (fd := f) (r := 0) (d := 0) (κ := κ (dCell c 5 lt5))
      (by rw [duties_dma I c _ _ (by decide)]; exact Finset.mem_singleton_self _) () Nb rfl (amount_b I c 0)
      (by
        rw [payload_dma, dmaPay_b, View.set_whole, View.write_whole_univ]
        exact BI.Entails.refl _)) $$ [Ht Ha Hq]
  · isplitr; · iapply (cx_dma I κ c c 5 lt5 (by decide)); iexact HC
    isplitl [Hq]; · unfold wPt; iexact Hq
    isplitl [Ha]; · unfold bPt; rw [View.set_whole]; iexact Ha
    isplitl [Ht]; · iexact Ht
    iapply (cx_dmaR I κ c 5 lt5 (by decide)); iexact HC
  iintro Hc
  iapply h
  isplitl [HO]
  · isplitr; · iexact HC
    iexact HO
  isplitl [Hc Hp]
  · isplitl [Hc]; · iexact Hc
    iexact Hp
  iexact HR

end Cert.KernelIdeal.Talk
-- ==== Proof.Chunks.lean ====
/-
  What a device holds before and after each phase, regrouped: the buffers in chunks and whole,
  the tokens and rows each exchange starts from, and the cells closed at the end.
-/
module

public import proofs.«01_k».proof.Proof.Local

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (I : Ins F) (κ : GSem nD τ sig → ℕ)

/-! ## The other devices and the device itself; the 126 cells -/

section Split
variable {M : Type} [URA M]

/-- A device is another's neighbour in exactly one way, or the device itself. -/
def devEquiv (c : Dev nD) : Unit ⊕ Fin 31 ≃ Dev nD :=
  Equiv.ofBijective (fun t => match t with | .inl _ => c | .inr j => nxt c j.val) (by
    rw [Fintype.bijective_iff_injective_and_card]
    refine ⟨?_, by decide⟩
    rintro (a | i) (b | j) h
    · rfl
    · exact absurd (h : c = nxt c j.val).symm (nxt_ne c j.isLt)
    · exact absurd (h : nxt c i.val = c) (nxt_ne c i.isLt)
    · exact congrArg Sum.inr (Fin.ext (nxt_inj c i.isLt j.isLt h)))

theorem bigSep_dev (c : Dev nD) (Ψ : Dev nD → sProp M) :
    bigSep Finset.univ Ψ = iprop(Ψ c ∗ bigSep Finset.univ fun j : Fin 31 => Ψ (nxt c j.val)) := by
  rw [bigSep_univ_equiv (devEquiv c) Ψ, bigSep_univ_sum, bigSep_univ_of_subsingleton ()]
  rfl

/-- The 31 numbers in reverse. -/
theorem bigSep_rev (Ψ : Fin 31 → sProp M) : bigSep Finset.univ Ψ = bigSep Finset.univ fun j : Fin 31 => Ψ (slotOf j) := by
  rw [bigSep_univ_equiv Fin.revPerm Ψ]
  exact bigSep_congr fun j _ => congrArg Ψ (Fin.ext (by rw [Fin.revPerm_apply, Fin.val_rev]; show 31 - (j.val + 1) = 30 - j.val; omega))

theorem sep_swap_imp (P Q : sProp M) : iprop(P ∗ Q) ⊢ iprop(Q ∗ P) := by
  iintro ⟨H, H'⟩
  isplitl [H']; · iexact H'
  iexact H
theorem sep_swap (P Q : sProp M) : (iprop(P ∗ Q) : sProp M) = iprop(Q ∗ P) := BI.Entails.antisymm (sep_swap_imp P Q) (sep_swap_imp Q P)

theorem bigSep_imp {Φ Ψ : Fin 31 → sProp M} (h : ∀ j, Φ j ⊢ Ψ j) : bigSep Finset.univ Φ ⊢ bigSep Finset.univ Ψ :=
  bigSep_mono fun j _ => h j

def cellEquiv : (Fin 2 ⊕ Fin 31) ⊕ (Fin 31 ⊕ (Fin 31 ⊕ Fin 31)) ≃ Fin 126 :=
  Equiv.ofBijective (fun t => match t with
    | .inl (.inl i) => ⟨i.val, by omega⟩
    | .inl (.inr j) => ⟨2 + j.val, by omega⟩
    | .inr (.inl j) => ⟨33 + j.val, by omega⟩
    | .inr (.inr (.inl j)) => ⟨64 + j.val, by omega⟩
    | .inr (.inr (.inr j)) => ⟨95 + j.val, by omega⟩) (by
    rw [Fintype.bijective_iff_injective_and_card]
    refine ⟨?_, by decide⟩
    rintro ((i | i) | (i | (i | i))) ((j | j) | (j | (j | j))) h <;>
    · have h' := congrArg Fin.val h
      simp only at h'
      first
        | (exfalso; omega)
        | (have e : i = j := Fin.ext (by omega)
           rw [e]))

/-- The kernel's own cells: the two copies', the sends' and the receipts' of the two exchanges. -/
theorem bigSep_cells (Ψ : Fin 130 → sProp M) :
    (bigSep Finset.univ fun k : Fin 126 => Ψ ⟨4 + k.val, ltk k⟩)
      = iprop(((Ψ ⟨4, lt4⟩ ∗ Ψ ⟨5, lt5⟩) ∗ bigSep Finset.univ fun j : Fin 31 => Ψ ⟨6 + j.val, lt6 j.isLt⟩)
        ∗ (bigSep Finset.univ fun j : Fin 31 => Ψ ⟨37 + (30 - j.val), lt37r j.val⟩)
        ∗ (bigSep Finset.univ fun j : Fin 31 => Ψ ⟨68 + j.val, lt68 j.isLt⟩)
        ∗ (bigSep Finset.univ fun j : Fin 31 => Ψ ⟨99 + (30 - j.val), lt99r j.val⟩)) := by
  rw [bigSep_univ_equiv cellEquiv, bigSep_univ_sum, bigSep_univ_sum, bigSep_univ_sum, bigSep_univ_sum, bigSep_fin_two]
  rw [bigSep_rev (fun j : Fin 31 => Ψ ⟨4 + (cellEquiv (Sum.inr (Sum.inl j))).val, _⟩),
    bigSep_rev (fun j : Fin 31 => Ψ ⟨4 + (cellEquiv (Sum.inr (Sum.inr (Sum.inr j)))).val, _⟩)]
  have e1 : ∀ j : Fin 31, (⟨4 + (cellEquiv (Sum.inl (Sum.inr j))).val, ltk _⟩ : Fin 130) = ⟨6 + j.val, lt6 j.isLt⟩ := fun j =>
    Fin.ext (by show 4 + (2 + j.val) = 6 + j.val; omega)
  have e2 : ∀ j : Fin 31, (⟨4 + (cellEquiv (Sum.inr (Sum.inl (slotOf j)))).val, ltk _⟩ : Fin 130) = ⟨37 + (30 - j.val), lt37r j.val⟩ := fun j =>
    Fin.ext (by show 4 + (33 + (30 - j.val)) = 37 + (30 - j.val); omega)
  have e3 : ∀ j : Fin 31, (⟨4 + (cellEquiv (Sum.inr (Sum.inr (Sum.inl j)))).val, ltk _⟩ : Fin 130) = ⟨68 + j.val, lt68 j.isLt⟩ := fun j =>
    Fin.ext (by show 4 + (64 + j.val) = 68 + j.val; omega)
  have e4 : ∀ j : Fin 31, (⟨4 + (cellEquiv (Sum.inr (Sum.inr (Sum.inr (slotOf j))))).val, ltk _⟩ : Fin 130) = ⟨99 + (30 - j.val), lt99r j.val⟩ := fun j =>
    Fin.ext (by show 4 + (95 + (30 - j.val)) = 99 + (30 - j.val); omega)
  simp only [e1, e2, e3, e4]
  rfl

end Split

/-! ## The chunked buffers, whole and in chunks -/

theorem ck_disj : ∀ d ∈ (Finset.univ : Finset (Dev nD)), ∀ d' ∈ (Finset.univ : Finset (Dev nD)), d ≠ d' → Disjoint (ck d) (ck d') := by
  intro d _ d' _ h
  rw [Finset.disjoint_left]
  exact fun y h1 h2 => h ((mem_ck.mp h1).symm.trans (mem_ck.mp h2))
theorem ck_all : (Finset.univ : Finset (Dev nD)).biUnion ck = Finset.univ :=
  Finset.eq_univ_of_forall fun y => Finset.mem_biUnion.mpr ⟨rowDev y, Finset.mem_univ _, mem_ck.mpr rfl⟩
theorem sk_disj : ∀ d ∈ (Finset.univ : Finset (Fin 31)), ∀ d' ∈ (Finset.univ : Finset (Fin 31)), d ≠ d' → Disjoint (sk d.val) (sk d'.val) := by
  intro d _ d' _ h
  rw [Finset.disjoint_left]
  exact fun y h1 h2 => h (Fin.ext ((mem_sk.mp h1).symm.trans (mem_sk.mp h2)))
theorem sk_all : (Finset.univ : Finset (Fin 31)).biUnion (fun k => sk k.val) = Finset.univ :=
  Finset.eq_univ_of_forall fun y => Finset.mem_biUnion.mpr ⟨⟨(y 0).val, (y 0).isLt⟩, Finset.mem_univ _, mem_sk.mpr rfl⟩

theorem pPt_chunks (c : Dev nD) (f : Vec F S1024x768 .bf16) :
    (pPt c Finset.univ f : sProp 𝕄) = iprop(pPt c (ck c) f ∗ bigSep Finset.univ fun j : Fin 31 => pPt c (ck (nxt c j.val)) f) := by
  rw [← bigSep_dev c (fun d => (pPt c (ck d) f : sProp 𝕄))]
  unfold pPt
  rw [← ck_all]
  exact pointsTo_biUnion (ℓ := pW.view.loc (c : Thread nD τ)) _ ck ck_disj
theorem gPt_chunks (c : Dev nD) (f : Vec F S1024x768 .bf16) :
    (gPt c Finset.univ fullShare f : sProp 𝕄) = iprop(gPt c (ck c) fullShare f ∗ bigSep Finset.univ fun j : Fin 31 => gPt c (ck (nxt c j.val)) fullShare f) := by
  rw [← bigSep_dev c (fun d => (gPt c (ck d) fullShare f : sProp 𝕄))]
  unfold gPt
  rw [← ck_all]
  exact pointsTo_biUnion (ℓ := gW.view.loc (c : Thread nD τ)) _ ck ck_disj
theorem rPt_slots (c : Dev nD) (f : Vec F S31x32x768 .bf16) :
    (rPt c Finset.univ f : sProp 𝕄) = bigSep Finset.univ fun k : Fin 31 => rPt c (sk k.val) f := by
  unfold rPt
  rw [← sk_all]
  exact pointsTo_biUnion (ℓ := rW.view.loc (c : Thread nD τ)) _ (fun k : Fin 31 => sk k.val) sk_disj

/-- The device's rows of the gathered buffer, shared out: one share per send, one kept. -/
theorem gPt_shares (c : Dev nD) (f : Vec F S1024x768 .bf16) :
    (gPt c (ck c) fullShare f : sProp 𝕄) = iprop((bigSep Finset.univ fun j : Fin 31 => gPt c (ck c) (lf j.val) f) ∗ gPt c (ck c) (lf 31) f) := by
  have h : (gPt c (ck c) fullShare f : sProp 𝕄) = bigSep Finset.univ fun i : Fin 32 => gPt c (ck c) (lf i.val) f := by
    unfold gPt
    refine (ShareLeaves.pointsTo_leaves (ℓ := gW.view.loc (c : Thread nD τ)) (ck c) f 5 fullShare).trans ?_
    refine bigSep_congr fun i _ => ?_
    unfold lf
    have e : (⟨i.val % 32, Nat.mod_lt _ (by decide)⟩ : Fin (2 ^ 5)) = i := Fin.ext (Nat.mod_eq_of_lt i.isLt)
    rw [e]
  have hl : ∀ j : Fin 31, gPt (F := F) c (ck c) (lf (nxt (31 : Dev nD) j.val).val) f = gPt c (ck c) (lf j.val) f := fun j => by
    have e : (nxt (31 : Dev nD) j.val).val = j.val := by rw [nxt_val]; show (31 + (j.val + 1)) % 32 = j.val; omega
    rw [e]
  rw [h, bigSep_dev (31 : Dev nD) (fun i => gPt c (ck c) (lf i.val) f), bigSep_congr (fun j _ => hl j)]
  exact sep_swap _ _

/-! ## What is held before each phase -/

def sgT (c : Dev nD) (j : Fin 31) : sProp 𝕄 := dutyTok ER (barCell (nxt c j.val)) 0 j
def rsT (c : Dev nD) (j : Fin 31) : sProp 𝕄 :=
  iprop(dutyTok ER (dCell c (6 + j.val) (lt6 j.isLt)) 0 0 ∗ dutyTok ER (dCell (nxt c j.val) (37 + (30 - j.val)) (lt37r _)) 0 0
    ∗ atPos ER (dCell c (6 + j.val) (lt6 j.isLt)) 0 ∅ 0)
def agT (c : Dev nD) (j : Fin 31) : sProp 𝕄 :=
  iprop(dutyTok ER (dCell c (68 + j.val) (lt68 j.isLt)) 0 0 ∗ dutyTok ER (dCell (nxt c j.val) (99 + (30 - j.val)) (lt99r _)) 0 0
    ∗ atPos ER (dCell c (68 + j.val) (lt68 j.isLt)) 0 ∅ 0)
/-- A send of the second exchange before its rows are there. -/
def agH (c : Dev nD) (j : Fin 31) : sProp 𝕄 :=
  iprop(dutyTok ER (dCell c (68 + j.val) (lt68 j.isLt)) 0 0 ∗ dutyTok ER (dCell (nxt c j.val) (99 + (30 - j.val)) (lt99r _)) 0 0
    ∗ reached ER (dCell (nxt c j.val) (99 + (30 - j.val)) (lt99r _)) 0
    ∗ (∃ f, gPt (nxt c j.val) (ck c) fullShare f) ∗ atPos ER (dCell c (68 + j.val) (lt68 j.isLt)) 0 ∅ 0)

/-- Each signal hands its receiver a slot and the receiver's rows, and that the two cells are open. -/
theorem entry_sg (c : Dev nD) (fr : Vec F S31x32x768 .bf16) (fg : Vec F S1024x768 .bf16) :
    iprop(Cx I κ c ∗ bigSep Finset.univ (sgT (F := F) c) ∗ rPt c Finset.univ fr ∗ gPt c Finset.univ fullShare fg)
      ⊢ iprop(bigSep Finset.univ (sgA c) ∗ gPt c (ck c) fullShare fg) := by
  rw [gPt_chunks, rPt_slots]
  iintro ⟨#HC, HT, Hr, Hg, Hgs⟩
  isplitr [Hg]
  · iapply (bigSep_with_persistent (R := Cx I κ c) (S := Finset.univ)
      (Φ := fun j : Fin 31 => iprop(sgT (F := F) c j ∗ rPt c (sk j.val) fr ∗ gPt c (ck (nxt c j.val)) fullShare fg)) (Ψ := sgA c) (fun j _ => by
        unfold sgA sgT barPay
        rw [nxt_back c j.val j.isLt, dif_pos j.isLt]
        iintro ⟨#HC, Ht, Hr, Hg⟩
        isplitl [Ht]; · iexact Ht
        isplitl [Hr]; · iexists fr; iexact Hr
        isplitl [Hg]; · iexists fg; iexact Hg
        isplitr
        · iapply (cx_dmaR I κ c (37 + j.val) (lt37 j.isLt) (by omega)); iexact HC
        · iapply (cx_dmaR I κ c (99 + j.val) (lt99 j.isLt) (by omega)); iexact HC))
    isplitr; · iexact HC
    rw [bigSep_sep', bigSep_sep']
    isplitl [HT]; · iexact HT
    isplitl [Hr]; · iexact Hr
    iexact Hgs
  · iexact Hg

theorem entry_rs (c : Dev nD) :
    iprop(bigSep Finset.univ (rsT (F := F) c) ∗ bigSep Finset.univ (agT (F := F) c) ∗ bigSep Finset.univ (give c) ∗ pPt c Finset.univ (pV I c))
      ⊢ iprop(bigSep Finset.univ (rsA I c) ∗ bigSep Finset.univ (agH c) ∗ pPt c (ck c) (pV I c)) := by
  rw [pPt_chunks]
  refine BIBase.Entails.trans (?_ : _ ⊢ iprop((bigSep Finset.univ (rsA I c) ∗ bigSep Finset.univ (agH (F := F) c)) ∗ pPt c (ck c) (pV I c))) ?_
  rotate_left
  · iintro ⟨⟨H1, H2⟩, H3⟩
    isplitl [H1]; · iexact H1
    isplitl [H2]; · iexact H2
    iexact H3
  iintro ⟨HR, HA, HG, Hp, Hps⟩
  isplitr [Hp]
  · ihave H : iprop(bigSep Finset.univ fun j : Fin 31 => iprop(rsT (F := F) c j ∗ agT (F := F) c j ∗ give c j ∗ pPt c (ck (nxt c j.val)) (pV I c))) $$ [HR HA HG Hps]
    · rw [bigSep_sep', bigSep_sep', bigSep_sep']
      isplitl [HR]; · iexact HR
      isplitl [HA]; · iexact HA
      isplitl [HG]; · iexact HG
      iexact Hps
    iapply (Entails.of_eq (bigSep_sep' Finset.univ (rsA I c) (agH (F := F) c)))
    iapply (bigSep_imp (Φ := fun j : Fin 31 => iprop(rsT (F := F) c j ∗ agT (F := F) c j ∗ give c j ∗ pPt c (ck (nxt c j.val)) (pV I c)))
      (Ψ := fun j => iprop(rsA I c j ∗ agH (F := F) c j)) (fun j => by
        unfold rsT agT give rsA agH
        iintro ⟨⟨H1, H2, H3⟩, ⟨H4, H5, H6⟩, ⟨H7, H8, H9, H10⟩, H11⟩
        isplitl [H1 H2 H3 H7 H9 H11]
        · isplitl [H1]; · iexact H1
          isplitl [H2]; · iexact H2
          isplitl [H9]; · iexact H9
          isplitl [H7]; · iexact H7
          isplitl [H11]; · iexact H11
          iexact H3
        · isplitl [H4]; · iexact H4
          isplitl [H5]; · iexact H5
          isplitl [H10]; · iexact H10
          isplitl [H8]; · iexact H8
          iexact H6))
    iexact H
  · iexact Hp

theorem entry_ag (c : Dev nD) :
    iprop(bigSep Finset.univ (agH (F := F) c) ∗ gPt c (ck c) fullShare (gV I)) ⊢ iprop(bigSep Finset.univ (agA I c) ∗ gPt c (ck c) (lf 31) (gV I)) := by
  rw [gPt_shares]
  iintro ⟨HH, Hs, Hg⟩
  isplitr [Hg]
  · ihave H : iprop(bigSep Finset.univ fun j : Fin 31 => iprop(agH (F := F) c j ∗ gPt c (ck c) (lf j.val) (gV I))) $$ [HH Hs]
    · rw [bigSep_sep']
      isplitl [HH]; · iexact HH
      iexact Hs
    iapply (bigSep_imp (Φ := fun j : Fin 31 => iprop(agH (F := F) c j ∗ gPt c (ck c) (lf j.val) (gV I))) (Ψ := agA I c) (fun j => by
        unfold agH agA
        iintro ⟨⟨H1, H2, H3, H4, H5⟩, H6⟩
        isplitl [H1]; · iexact H1
        isplitl [H2]; · iexact H2
        isplitl [H3]; · iexact H3
        isplitl [H4]; · iexact H4
        isplitl [H6]; · iexact H6
        iexact H5))
    iexact H
  · iexact Hg

/-! ## After the exchanges -/

/-- A DMA cell whose one round is over. -/
def dn (c : Dev nD) (k : Fin 130) : sProp 𝕄 := atPos ER (dCell c k.val k.isLt) (0 + 1) ∅ 0

theorem exit_p (c : Dev nD) :
    iprop(pPt c (ck c) (pV I c) ∗ bigSep Finset.univ (rsC I c)) ⊢ iprop(pPt c Finset.univ (pV I c) ∗ bigSep Finset.univ fun j : Fin 31 => dn (F := F) c ⟨6 + j.val, lt6 j.isLt⟩) := by
  rw [pPt_chunks]
  have h : bigSep Finset.univ (rsC I c) = iprop((bigSep Finset.univ fun j : Fin 31 => pPt c (ck (nxt c j.val)) (pV I c)) ∗ bigSep Finset.univ fun j : Fin 31 => dn (F := F) c ⟨6 + j.val, lt6 j.isLt⟩) := by
    rw [← bigSep_sep']
    exact bigSep_congr fun j _ => by unfold rsC dn; rw [dmaPay_rsS I c j.isLt]
  rw [h]
  iintro ⟨H1, H2, H3⟩
  isplitr [H3]
  · isplitl [H1]; · iexact H1
    iexact H2
  · iexact H3

theorem exit_r (c : Dev nD) :
    bigSep Finset.univ (rvC I c) ⊢ iprop(rPt c Finset.univ (rV I c) ∗ bigSep Finset.univ fun j : Fin 31 => dn (F := F) c ⟨37 + (30 - j.val), lt37r j.val⟩) := by
  rw [rPt_slots, bigSep_rev (fun k : Fin 31 => rPt c (sk k.val) (rV I c)), ← bigSep_sep']
  exact bigSep_mono fun j _ => by
    unfold rvC dn
    rw [dmaPay_rsR I c (lt31r j.val)]
    exact BI.Entails.refl _

theorem exit_g (c : Dev nD) :
    iprop(gPt c (ck c) (lf 31) (gV I) ∗ bigSep Finset.univ (agC I c) ∗ bigSep Finset.univ (avC I c))
      ⊢ iprop(gPt c Finset.univ fullShare (gV I) ∗ (bigSep Finset.univ fun j : Fin 31 => dn (F := F) c ⟨68 + j.val, lt68 j.isLt⟩)
        ∗ bigSep Finset.univ fun j : Fin 31 => dn (F := F) c ⟨99 + (30 - j.val), lt99r j.val⟩) := by
  rw [gPt_chunks, gPt_shares, bigSep_rev (fun j : Fin 31 => gPt c (ck (nxt c j.val)) fullShare (gV I))]
  have h1 : bigSep Finset.univ (agC I c) = iprop((bigSep Finset.univ fun j : Fin 31 => gPt c (ck c) (lf j.val) (gV I)) ∗ bigSep Finset.univ fun j : Fin 31 => dn (F := F) c ⟨68 + j.val, lt68 j.isLt⟩) := by
    rw [← bigSep_sep']
    exact bigSep_congr fun j _ => by unfold agC dn; rw [dmaPay_agS I c j.isLt]
  have h2 : bigSep Finset.univ (avC I c) = iprop((bigSep Finset.univ fun j : Fin 31 => gPt c (ck (nxt c (slotOf j).val)) fullShare (gV I)) ∗ bigSep Finset.univ fun j : Fin 31 => dn (F := F) c ⟨99 + (30 - j.val), lt99r j.val⟩) := by
    rw [← bigSep_sep']
    exact bigSep_congr fun j _ => by unfold avC dn; rw [dmaPay_agR I c (lt31r j.val)]
  rw [h1, h2]
  iintro ⟨H0, ⟨H1, H2⟩, H3, H4⟩
  isplitl [H0 H1 H3]
  · isplitl [H0 H1]
    · isplitl [H1]; · iexact H1
      iexact H0
    · iexact H3
  isplitl [H2]; · iexact H2
  iexact H4

/-- Every cell of the kernel, its round over, is closed. -/
theorem close_all (c : Dev nD) :
    iprop(Cx I κ c ∗ atPos ER (barCell c) (0 + 1) ∅ 0 ∗ bigSep Finset.univ fun k : Fin 126 => dn (F := F) c ⟨4 + k.val, ltk k⟩)
      ⊢ |={Set.univ}=> iprop(semVal (barCell c) 0 ∗ bigSep Finset.univ fun k : Fin 126 => semVal (dCell c (4 + k.val) (ltk k)) 0) := by
  iintro ⟨#HC, Hb, HD⟩
  imod (Rounds.cell_close ER (sched I) (g := barCell c) (Set.mem_univ (κ (barCell c))) id (duties_later I _)) $$ [Hb] with Hb
  · isplitr; · iapply (cx_bar I κ c c); iexact HC
    iexact Hb
  ihave HD' := ((bigSep_with_persistent (R := Cx I κ c) (S := Finset.univ) (Φ := fun k : Fin 126 => dn (F := F) c ⟨4 + k.val, ltk k⟩)
      (Ψ := fun k : Fin 126 => iprop(|={Set.univ}=> semVal (dCell c (4 + k.val) (ltk k)) 0)) (fun k _ => by
        unfold dn
        iintro ⟨#HC, H⟩
        iapply (Rounds.cell_close ER (sched I) (g := dCell c (4 + k.val) (ltk k)) (Set.mem_univ (κ (dCell c (4 + k.val) (ltk k)))) id (duties_later I _))
        isplitr; · iapply (cx_dma I κ c c (4 + k.val) (ltk k) (by omega)); iexact HC
        iexact H)).trans (bigSep_fupd (E := Set.univ) Finset.univ _)) $$ [HD]
  · isplitr; · iexact HC
    iexact HD
  imod HD' with HD'
  imodintro
  isplitl [Hb]; · iexact Hb
  iexact HD'

end Cert.KernelIdeal.Talk
-- ==== Proof.Phases.lean ====
/-
  What a device holds at each stage of the kernel's body, and how one stage's leads to the next's.
-/
module

public import proofs.«01_k».proof.Proof.Chunks

@[expose] public section

set_option maxRecDepth 65536
set_option maxHeartbeats 4000000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (I : Ins F) (κ : GSem nD τ sig → ℕ)

/-- The kernel's body over its buffers. -/
abbrev body : Prog (TpuEff nD τ sig (Elt F) Λ₀ .tc) PUnit :=
  cc0_body xW (Memref.isWhole_whole _) qW (Memref.isWhole_whole _) kW (Memref.isWhole_whole _) vW (Memref.isWhole_whole _) wW (Memref.isWhole_whole _)
    oW (Memref.isWhole_whole _) aW (Memref.isWhole_whole _) bW (Memref.isWhole_whole _) pW (Memref.isWhole_whole _) gW (Memref.isWhole_whole _)
    rW (Memref.isWhole_whole _) cc0_scratch5 cc0_scratch6 cc0_scratch7 cc0_scratch8 cc0_scratch9

/-! ## What is held, besides what a phase works on -/

def Xs (c : Dev nD) : sProp 𝕄 := iprop(xPt c (I.x c) ∗ kPt c (I.k c) ∗ vPt c (I.v c))
/-- What the exchanges are to use. -/
def Later (c : Dev nD) (fg : Vec F S1024x768 .bf16) (fo : Vec F S1024x768 .f32) : sProp 𝕄 :=
  iprop((bigSep Finset.univ (rsT (F := F) c) ∗ bigSep Finset.univ (agT (F := F) c)) ∗ bigSep Finset.univ (rvB (F := F) c) ∗ bigSep Finset.univ (avB (F := F) c)
    ∗ gPt c (ck c) fullShare fg ∗ oPt c fo)
/-- What the copies of the weights are done with. -/
def Left (c : Dev nD) : sProp 𝕄 :=
  iprop((qPt c (qM c).view.set (I.wq c) ∗ wPt c (wM c).view.set (I.wo c)) ∗ dn (F := F) c ⟨4, lt4⟩ ∗ dn (F := F) c ⟨5, lt5⟩)

def Bar (c : Dev nD) : sProp 𝕄 := iprop(cred (tallyAt (barCell c) () 31) ∗ atPos ER (barCell c) 0 ∅ 0)

/-- What the body starts from. -/
def Start (c : Dev nD) (fp fg : Vec F S1024x768 .bf16) (fo : Vec F S1024x768 .f32) : sProp 𝕄 :=
  iprop(Sg I κ c 0 ∗ wgA I c ∗ wgB I c ∗ Xs I c ∗ pPt c Finset.univ fp ∗ Bar c ∗ Later c fg fo)

variable {I κ}

theorem to_copies (c : Dev nD) {R : sProp 𝕄} : iprop(Sg I κ c 31 ∗ R) ⊢ iprop((Cx I κ c ∗ Ow c 31 0 0) ∗ R) := by
  unfold Sg
  iintro ⟨⟨HC, HO, HL⟩, HR⟩
  isplitl [HC HO]
  · isplitl [HC]; · iexact HC
    iexact HO
  iexact HR

theorem swap {P A B R : sProp 𝕄} : iprop(P ∗ A ∗ B ∗ R) ⊢ iprop(P ∗ B ∗ A ∗ R) := by
  iintro ⟨HP, HA, HB, HR⟩
  isplitl [HP]; · iexact HP
  isplitl [HB]; · iexact HB
  isplitl [HA]; · iexact HA
  iexact HR

/-- What the attention works with. -/
def Att (I : Ins F) (c : Dev nD) (fg : Vec F S1024x768 .bf16) (fo : Vec F S1024x768 .f32) : sProp 𝕄 := iprop(Bar c ∗ Left I c ∗ Later c fg fo)

theorem to_attention (c : Dev nD) {P : sProp 𝕄} {fp fg : Vec F S1024x768 .bf16} {fo : Vec F S1024x768 .f32} :
    iprop(P ∗ (dmaPay I c 5 ∗ atPos ER (dCell c 5 lt5) (0 + 1) ∅ 0) ∗ (dmaPay I c 4 ∗ atPos ER (dCell c 4 lt4) (0 + 1) ∅ 0)
        ∗ Xs I c ∗ pPt c Finset.univ fp ∗ Bar c ∗ Later c fg fo)
      ⊢ iprop(P ∗ At I c ∗ pPt c Finset.univ fp ∗ Att I c fg fo) := by
  rw [dmaPay_a, dmaPay_b]
  unfold Xs At Att Left dn
  iintro ⟨HP, ⟨⟨Hb, Hw⟩, H5⟩, ⟨⟨Ha, Hq⟩, H4⟩, ⟨Hx, Hk, Hv⟩, Hp, HB, HL⟩
  isplitl [HP]; · iexact HP
  isplitl [Hx Hk Hv Ha Hb]
  · isplitl [Hx]; · iexact Hx
    isplitl [Hk]; · iexact Hk
    isplitl [Hv]; · iexact Hv
    isplitl [Ha]; · iexact Ha
    iexact Hb
  isplitl [Hp]; · iexact Hp
  isplitl [HB]; · iexact HB
  isplitr [HL]
  · isplitl [Hq Hw]
    · isplitl [Hq]; · iexact Hq
      iexact Hw
    isplitl [H4]; · iexact H4
    iexact H5
  iexact HL

theorem p_done (c : Dev nD) {P T R X : sProp 𝕄} {f : Vec F S1024x768 .bf16} {h0 h1} {w0 w1 : FVec F S512x768 .bf16} (e0 : w0 = partB I c 0) (e1 : w1 = partB I c 1)
    (h : iprop(P ∗ T ∗ pPt c Finset.univ (pV I c) ∗ R) ⊢ X) :
    iprop(P ∗ T ∗ pPt c Finset.univ ((pW.access (Rect.unit (s := S1024x768) ![512, 0] S512x768.size h1)).write (Elt F)
      ((pW.access (Rect.unit (s := S1024x768) ![0, 0] S512x768.size h0)).write (Elt F) f w0 Finset.univ) w1 Finset.univ) ∗ R) ⊢ X := by
  rw [p_stored I c f h0 h1 w0 w1 e0 e1]
  exact h

theorem to_barrier (c : Dev nD) {P A p : sProp 𝕄} {fg : Vec F S1024x768 .bf16} {fo : Vec F S1024x768 .f32} :
    iprop(P ∗ A ∗ p ∗ Att I c fg fo) ⊢ iprop(P ∗ Bar c ∗ A ∗ p ∗ Left I c ∗ Later c fg fo) := by
  unfold Att
  iintro ⟨HP, HA, Hp, HB, HL⟩
  isplitl [HP]; · iexact HP
  isplitl [HB]; · iexact HB
  isplitl [HA]; · iexact HA
  isplitl [Hp]; · iexact Hp
  iexact HL

theorem to_own {P a g A p R : sProp 𝕄} : iprop(P ∗ a ∗ g ∗ A ∗ p ∗ R) ⊢ iprop(P ∗ (a ∗ g ∗ A) ∗ p ∗ R) := by
  iintro ⟨HP, Ha, Hg, HA, Hp, HR⟩
  isplitl [HP]; · iexact HP
  isplitl [Ha Hg HA]
  · isplitl [Ha]; · iexact Ha
    isplitl [Hg]; · iexact Hg
    iexact HA
  isplitl [Hp]; · iexact Hp
  iexact HR

/-- What the first exchange leaves alone. -/
def Aside (I : Ins F) (c : Dev nD) : sProp 𝕄 :=
  iprop(atPos ER (barCell c) (0 + 1) ∅ 0 ∗ At I c ∗ pPt c (ck c) (pV I c) ∗ Left I c)

def Gath (c : Dev nD) : sProp 𝕄 := iprop(bigSep Finset.univ (agH (F := F) c) ∗ bigSep Finset.univ (avB (F := F) c))

theorem to_rs (c : Dev nD) {fg : Vec F S1024x768 .bf16} {fo : Vec F S1024x768 .f32} :
    iprop((Cx I κ c ∗ Ow c 31 0 0) ∗ (atPos ER (barCell c) (0 + 1) ∅ 0 ∗ (bigSep Finset.univ fun i : Fin 31 => give c i) ∗ At I c) ∗ pPt c Finset.univ (pV I c)
        ∗ Left I c ∗ Later c fg fo)
      ⊢ iprop(RS I κ c 0 0 0 ∗ gPt c (ck c) fullShare fg ∗ oPt c fo ∗ Gath c ∗ Aside I c) := by
  unfold RS Later Aside Gath
  rw [life_none, life_begun]
  iintro ⟨HP, ⟨Hb, Hg, HA⟩, Hp, HL, ⟨Hr, Ha⟩, Hrv, Hav, Hgp, Ho⟩
  ihave H := (entry_rs I c) $$ [Hr Ha Hg Hp]
  · isplitl [Hr]; · iexact Hr
    isplitl [Ha]; · iexact Ha
    isplitl [Hg]; · iexact Hg
    iexact Hp
  icases H with ⟨Hr, Ha, Hp⟩
  isplitl [HP Hr Hrv]
  · isplitl [HP]; · iexact HP
    isplitl [Hr]; · iexact Hr
    iexact Hrv
  isplitl [Hgp]; · iexact Hgp
  isplitl [Ho]; · iexact Ho
  isplitl [Ha Hav]
  · isplitl [Ha]; · iexact Ha
    iexact Hav
  isplitl [Hb]; · iexact Hb
  isplitl [HA]; · iexact HA
  isplitl [Hp]; · iexact Hp
  iexact HL

/-- What the first exchange is done with. -/
def Sent (I : Ins F) (c : Dev nD) : sProp 𝕄 := iprop(bigSep Finset.univ (rsC I c) ∗ bigSep Finset.univ (rvC I c))

theorem from_rs (c : Dev nD) {g o G A : sProp 𝕄} :
    iprop(RS I κ c 31 31 31 ∗ g ∗ o ∗ G ∗ A) ⊢ iprop((Cx I κ c ∗ Ow c 31 31 0) ∗ g ∗ o ∗ G ∗ Sent I c ∗ A) := by
  unfold RS Sent
  rw [life_done, life_done]
  iintro ⟨⟨HP, Hr, Hv⟩, Hg, Ho, HG, HA⟩
  isplitl [HP]; · iexact HP
  isplitl [Hg]; · iexact Hg
  isplitl [Ho]; · iexact Ho
  isplitl [HG]; · iexact HG
  isplitr [HA]
  · isplitl [Hr]; · iexact Hr
    iexact Hv
  iexact HA

theorem to_ag (c : Dev nD) {o S A : sProp 𝕄} :
    iprop((Cx I κ c ∗ Ow c 31 31 0) ∗ o ∗ gPt c (ck c) fullShare (gV I) ∗ Gath c ∗ S ∗ A) ⊢ iprop(AG I κ c 0 0 0 ∗ o ∗ gPt c (ck c) (lf 31) (gV I) ∗ S ∗ A) := by
  unfold AG Gath
  rw [life_none, life_begun]
  iintro ⟨HP, Ho, Hg, ⟨Ha, Hv⟩, HS, HA⟩
  ihave H := (entry_ag I c) $$ [Ha Hg]
  · isplitl [Ha]; · iexact Ha
    iexact Hg
  icases H with ⟨Ha, Hg⟩
  isplitl [HP Ha Hv]
  · isplitl [HP]; · iexact HP
    isplitl [Ha]; · iexact Ha
    iexact Hv
  isplitl [Ho]; · iexact Ho
  isplitl [Hg]; · iexact Hg
  isplitl [HS]; · iexact HS
  iexact HA

theorem out_all (c : Dev nD) : Out I c 31 ⊢ oPt c (outV I c) := by
  unfold Out
  iintro ⟨%f, Ho, %hf⟩
  have h : f = outV I c := funext fun i => hf i (by
    by_cases hc : rowDev i = c
    · exact Or.inl hc
    · right
      have h1 : (rowDev i).val < 32 := (rowDev i).isLt
      have h2 : c.val < 32 := c.isLt
      have h3 : (rowDev i).val ≠ c.val := fun h => hc (Fin.ext h)
      refine ⟨30 - ((rowDev i).val + 31 - c.val) % 32, by omega, Fin.ext ?_⟩
      rw [nxt_val]
      omega)
  rw [← h]
  iexact Ho

variable (I κ)

/-- What the body ends with. -/
def Done (c : Dev nD) : sProp 𝕄 :=
  iprop(Ow c 31 31 31 ∗ At I c ∗ (qPt c (qM c).view.set (I.wq c) ∗ wPt c (wM c).view.set (I.wo c)) ∗ pPt c Finset.univ (pV I c) ∗ rPt c Finset.univ (rV I c)
    ∗ gPt c Finset.univ fullShare (gV I) ∗ oPt c (outV I c) ∗ semVal (barCell c) 0 ∗ bigSep Finset.univ fun k : Fin 126 => semVal (dCell c (4 + k.val) (ltk k)) 0)

theorem finish (c : Dev nD) :
    iprop(AG I κ c 31 31 31 ∗ Out I c 31 ∗ gPt c (ck c) (lf 31) (gV I) ∗ Sent I c ∗ Aside I c) ⊢ |={Set.univ}=> Done I c := by
  unfold AG Sent Aside Left
  rw [life_done, life_done]
  iintro ⟨⟨⟨#HC, HO⟩, Ha, Hav⟩, Ho, Hg, ⟨Hr, Hrv⟩, Hb, HA, Hp, Hqw, H4, H5⟩
  ihave Ho := (out_all c) $$ Ho
  ihave H := (exit_p I c) $$ [Hp Hr]
  · isplitl [Hp]; · iexact Hp
    iexact Hr
  icases H with ⟨Hp, D1⟩
  ihave H := (exit_r I c) $$ Hrv
  icases H with ⟨Hr, D2⟩
  ihave H := (exit_g I c) $$ [Hg Ha Hav]
  · isplitl [Hg]; · iexact Hg
    isplitl [Ha]; · iexact Ha
    iexact Hav
  icases H with ⟨Hg, D3, D4⟩
  imod (close_all I κ c) $$ [Hb H4 H5 D1 D2 D3 D4] with H
  · isplitr; · iexact HC
    isplitl [Hb]; · iexact Hb
    iapply (Entails.of_eq (bigSep_cells (dn (F := F) c)).symm)
    isplitl [H4 H5 D1]
    · isplitl [H4 H5]
      · isplitl [H4]; · iexact H4
        iexact H5
      iexact D1
    isplitl [D2]; · iexact D2
    isplitl [D3]; · iexact D3
    iexact D4
  icases H with ⟨Hb, HD⟩
  imodintro
  unfold Done
  isplitl [HO]; · iexact HO
  isplitl [HA]; · iexact HA
  isplitl [Hqw]; · iexact Hqw
  isplitl [Hp]; · iexact Hp
  isplitl [Hr]; · iexact Hr
  isplitl [Hg]; · iexact Hg
  isplitl [Ho]; · iexact Ho
  isplitl [Hb]; · iexact Hb
  iexact HD

end Cert.KernelIdeal.Talk
-- ==== Proof.Body.lean ====
/-
  The kernel's body, run once at any device: the barrier, the attention, the two exchanges.
-/
module

public import proofs.«01_k».proof.Proof.Phases

@[expose] public section

set_option maxRecDepth 65536
set_option maxHeartbeats 4000000

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Cert.KernelIdeal.Gen

variable {F : FTy → Type} [FloatOps F]

local notation "𝕄" => MT nD τ sig Unit (Elt F) ℕ UU ℕ

variable (I : Ins F) (κ : GSem nD τ sig → ℕ)

/-- A program that has ended. -/
theorem run_end (c : Dev nD) {P : sProp 𝕄} {α : Type} {a : α} {Q : α → sProp 𝕄} (h : P ⊢ |={Set.univ}=> Q a) : P ⊢ Run c (.ret a) Q := by
  unfold Run
  rw [wp_ret]
  exact h

/-- The rows just received, loaded. -/
theorem rs_last (c : Dev nD) (s w r : ℕ) (hr : r < 31) {R : sProp 𝕄} {α : Type}
    {m : Memref sig .tc .vmem S31x32x768 .bf16} {rc : Rect S31x32x768} {hl : m.view.LoadsAt rc}
    {k : (rc.shape.Idx → Elt F .bf16) → Prog (TpuEff nD τ sig (Elt F) Λ₀ .tc) α} {Q : α → sProp 𝕄}
    (em : m = rW) (er : rc = Rect.unit (s := S31x32x768) ![30 - r, 0, 0] S1x32x768.size (inb_slot (slotOf ⟨r, hr⟩)))
    (h : iprop(RS I κ c s w (r + 1) ∗ R) ⊢ Run c (k ((rW.access rc).read (Elt F) (rV I c))) Q) :
    iprop(RS I κ c s w (r + 1) ∗ R) ⊢ Run c (.op (.load m rc hl) k) Q :=
  rs_slot I κ c s w (r + 1) ⟨r, hr⟩ (Nat.lt_succ_self r) em er h

/-- The gathered rows just received, loaded. -/
theorem ag_last (c : Dev nD) (s w r : ℕ) (hr : r < 31) {R : sProp 𝕄} {α : Type}
    {m : Memref sig .tc .vmem S1024x768 .bf16} {rc : Rect S1024x768} {hl : m.view.LoadsAt rc}
    {k : (rc.shape.Idx → Elt F .bf16) → Prog (TpuEff nD τ sig (Elt F) Λ₀ .tc) α} {Q : α → sProp 𝕄}
    (em : m = gW) (er : rc = Rect.unit (s := S1024x768) (k0_off6 c (BitVec.ofNat 32 (1 + r))) S32x768.size (k0_off6_inb c ⟨r, hr⟩))
    (h : ∀ v, HEq v (gC I (nxt c (30 - r))) → (iprop(AG I κ c s w (r + 1) ∗ R) ⊢ Run c (k v) Q)) :
    iprop(AG I κ c s w (r + 1) ∗ R) ⊢ Run c (.op (.load m rc hl) k) Q := by
  subst er
  exact ag_load I κ c s w (r + 1) r (Nat.lt_succ_self r) hr em rfl (h _ (heq_of_eq (gload I c ⟨r, hr⟩)))

/-- The body, from what it is handed to what it leaves. -/
theorem body_run (c : Dev nD) (fp fg : Vec F S1024x768 .bf16) (fo : Vec F S1024x768 .f32) (Q : PUnit → sProp 𝕄) (hQ : Done I c ⊢ |={Set.univ}=> Q ⟨⟩) :
    Start I κ c fp fg fo ⊢ Run c (body (F := F)) Q := by
  unfold Start body
  rw [cc0_body_eq_skeleton]
  unfold cc0_body_skel
  refine run_part c fun K₀ hK₀ => ?_
  rw [k0_part82_eq_skeleton]
  unfold k0_part82_skel
  -- the signals
  repeat
    refine run_part c fun K hK => ?_
    simp only [
      k0_part1_eq_skeleton, k0_part2_eq_skeleton, k0_part3_eq_skeleton, k0_part4_eq_skeleton, k0_part5_eq_skeleton, k0_part1_skel, k0_part2_skel,
      k0_part3_skel, k0_part4_skel, k0_part5_skel, Prog.lift, Prog.bind_op, Prog.bind_ret, Prog.pure_eq_ret, semSignalWord, wp_deviceId]
    repeat
      with_reducible refine signal_step I κ c _ ?_ ?_ ?_ ?_ ?_
      · decide
      · simp only [nxt_val, Nat.reduceAdd,
          Gen.k0_dev1_eq, Gen.k0_dev2_eq, Gen.k0_dev3_eq, Gen.k0_dev4_eq, Gen.k0_dev5_eq, Gen.k0_dev6_eq, Gen.k0_dev7_eq, Gen.k0_dev8_eq,
          Gen.k0_dev9_eq, Gen.k0_dev10_eq, Gen.k0_dev11_eq, Gen.k0_dev12_eq, Gen.k0_dev13_eq, Gen.k0_dev14_eq, Gen.k0_dev15_eq, Gen.k0_dev16_eq,
          Gen.k0_dev17_eq, Gen.k0_dev18_eq, Gen.k0_dev19_eq, Gen.k0_dev20_eq, Gen.k0_dev21_eq, Gen.k0_dev22_eq, Gen.k0_dev23_eq, Gen.k0_dev24_eq,
          Gen.k0_dev25_eq, Gen.k0_dev26_eq, Gen.k0_dev27_eq, Gen.k0_dev28_eq, Gen.k0_dev29_eq, Gen.k0_dev30_eq, Gen.k0_dev31_eq]
      · rfl
      · rfl
    refine run_ret c ?_
    rw [hK]
    clear hK K
    try dsimp only
  -- the last signals, the copies of the weights
  refine run_part c fun K hK => ?_
  rw [k0_part6_eq_skeleton]
  unfold k0_part6_skel
  simp only [Prog.lift, Prog.bind_op, Prog.bind_ret, Prog.pure_eq_ret, semSignalWord]
  iterate 2
    with_reducible refine signal_step I κ c _ ?_ ?_ ?_ ?_ ?_
    · decide
    · simp only [nxt_val, Nat.reduceAdd, Gen.k0_dev30_eq, Gen.k0_dev31_eq]
    · rfl
    · rfl
  refine BIBase.Entails.trans (to_copies c) ?_
  refine copy_a I κ c rfl rfl rfl ?_
  refine BIBase.Entails.trans swap ?_
  refine copy_b I κ c rfl rfl rfl ?_
  refine BIBase.Entails.trans swap ?_
  refine dma_wait I κ c 4 lt4 (by decide) 31 0 0 0 Na (expect_a I c).symm (le_of_eq (lv_dma c 4 lt4)) (by decide) (by decide) (by decide) rfl rfl ?_
  refine BIBase.Entails.trans swap ?_
  refine dma_wait I κ c 5 lt5 (by decide) 31 0 0 0 Nb (expect_b I c).symm (le_of_eq (lv_dma c 5 lt5)) (by decide) (by decide) (by decide) rfl rfl ?_
  refine BIBase.Entails.trans (to_attention c) ?_
  refine at_a I c ?_
  refine at_b I c ?_
  refine run_ret c ?_
  rw [hK]
  clear hK K
  try dsimp only
  -- the attention
  repeat
    refine run_part c fun K hK => ?_
    simp only [
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part7_skel, k0_part8_skel, k0_part9_skel,
      k0_part10_skel, k0_part11_skel, k0_part12_skel, k0_part13_skel, k0_part14_skel, k0_part15_skel, k0_part16_skel, Prog.lift, Prog.bind_op,
      Prog.bind_ret, Prog.pure_eq_ret]
    repeat
      first
        | with_reducible refine at_k I c ?_
        | with_reducible refine at_v I c ?_
        | with_reducible refine at_x I c ?_
        | with_reducible refine p_load c ?_
        | with_reducible refine p_store c ?_
    refine run_ret c ?_
    rw [hK]
    clear hK K
    try dsimp only
  -- the barrier
  refine run_part c fun K hK => ?_
  rw [k0_part17_eq_skeleton]
  unfold k0_part17_skel
  simp only [Prog.lift, Prog.bind_op, Prog.bind_ret, Prog.pure_eq_ret, semWaitWord]
  with_reducible refine at_k I c ?_
  with_reducible refine at_v I c ?_
  with_reducible refine p_load c ?_
  with_reducible refine p_store c ?_
  refine p_done c (part0_eq I c) (part1_eq I c) ?_
  refine BIBase.Entails.trans (to_barrier c) ?_
  refine barrier_step I κ c rfl rfl ?_
  refine BIBase.Entails.trans to_own ?_
  with_reducible refine p_load c ?_
  refine run_ret c ?_
  rw [hK]
  clear hK K
  try dsimp only
  refine BIBase.Entails.trans (to_rs c) ?_
  -- the first exchange
  repeat
    refine run_part c fun K hK => ?_
    simp only [
      k0_part18_eq_skeleton, k0_part19_eq_skeleton, k0_part20_eq_skeleton, k0_part21_eq_skeleton, k0_part22_eq_skeleton, k0_part23_eq_skeleton,
      k0_part24_eq_skeleton, k0_part25_eq_skeleton, k0_part26_eq_skeleton, k0_part27_eq_skeleton, k0_part28_eq_skeleton, k0_part29_eq_skeleton,
      k0_part30_eq_skeleton, k0_part31_eq_skeleton, k0_part32_eq_skeleton, k0_part33_eq_skeleton, k0_part34_eq_skeleton, k0_part35_eq_skeleton,
      k0_part36_eq_skeleton, k0_part37_eq_skeleton, k0_part38_eq_skeleton, k0_part39_eq_skeleton, k0_part40_eq_skeleton, k0_part41_eq_skeleton,
      k0_part42_eq_skeleton, k0_part43_eq_skeleton, k0_part44_eq_skeleton, k0_part45_eq_skeleton, k0_part46_eq_skeleton, k0_part47_eq_skeleton,
      k0_part18_skel, k0_part19_skel, k0_part20_skel, k0_part21_skel, k0_part22_skel, k0_part23_skel, k0_part24_skel, k0_part25_skel, k0_part26_skel,
      k0_part27_skel, k0_part28_skel, k0_part29_skel, k0_part30_skel, k0_part31_skel, k0_part32_skel, k0_part33_skel, k0_part34_skel, k0_part35_skel,
      k0_part36_skel, k0_part37_skel, k0_part38_skel, k0_part39_skel, k0_part40_skel, k0_part41_skel, k0_part42_skel, k0_part43_skel, k0_part44_skel,
      k0_part45_skel, k0_part46_skel, k0_part47_skel, Prog.lift, Prog.bind_op, Prog.bind_ret, Prog.pure_eq_ret]
    repeat first
      | with_reducible refine rs_send I κ c _ _ _ ?_ ?_ ?_ ?_ ?_ ?_ ?_ ?_
        · decide
        · decide
        · simp only [nxt_val, Nat.reduceAdd,
            Gen.k0_dev32_eq, Gen.k0_dev33_eq, Gen.k0_dev34_eq, Gen.k0_dev35_eq, Gen.k0_dev36_eq, Gen.k0_dev37_eq, Gen.k0_dev38_eq, Gen.k0_dev39_eq,
            Gen.k0_dev40_eq, Gen.k0_dev41_eq, Gen.k0_dev42_eq, Gen.k0_dev43_eq, Gen.k0_dev44_eq, Gen.k0_dev45_eq, Gen.k0_dev46_eq, Gen.k0_dev47_eq,
            Gen.k0_dev48_eq, Gen.k0_dev49_eq, Gen.k0_dev50_eq, Gen.k0_dev51_eq, Gen.k0_dev52_eq, Gen.k0_dev53_eq, Gen.k0_dev54_eq, Gen.k0_dev55_eq,
            Gen.k0_dev56_eq, Gen.k0_dev57_eq, Gen.k0_dev58_eq, Gen.k0_dev59_eq, Gen.k0_dev60_eq, Gen.k0_dev61_eq, Gen.k0_dev62_eq]
        · rfl
        · rfl
        · rfl
        · rfl
      | with_reducible refine rs_last I κ c _ _ _ ?_ ?_ ?_ ?_
        · decide
        · rfl
        · rfl
      | with_reducible refine rs_recv I κ c _ _ _ ?_ ?_ ?_ ?_ ?_
        · decide
        · decide
        · rfl
        · rfl
      | with_reducible refine rs_back I κ c _ _ _ ?_ ?_ ?_ ?_ ?_
        · decide
        · decide
        · rfl
        · rfl
    refine run_ret c ?_
    rw [hK]
    clear hK K
    try dsimp only
  -- its last waits
  refine run_part c fun K hK => ?_
  rw [k0_part48_eq_skeleton]
  unfold k0_part48_skel
  simp only [Prog.lift, Prog.bind_op, Prog.bind_ret, Prog.pure_eq_ret]
  repeat
    with_reducible refine rs_back I κ c _ _ _ ?_ ?_ ?_ ?_ ?_
    · decide
    · decide
    · rfl
    · rfl
  refine BIBase.Entails.trans (from_rs c) ?_
  refine g_load c fun _ => ?_
  refine run_ret c ?_
  rw [hK]
  clear hK K
  try dsimp only
  -- the sums stored, and the first sends of the second exchange
  refine run_part c fun K hK => ?_
  rw [k0_part49_eq_skeleton]
  unfold k0_part49_skel
  simp only [Prog.lift, Prog.bind_op, Prog.bind_ret, Prog.pure_eq_ret]
  refine g_store I c rfl ?_
  refine BIBase.Entails.trans swap ?_
  refine out_peek c rfl fun _ => ?_
  refine out_own I c rfl rfl HEq.rfl rfl ?_
  refine BIBase.Entails.trans swap ?_
  refine BIBase.Entails.trans swap ?_
  refine BIBase.Entails.trans (to_ag c) ?_
  iterate 2
    with_reducible refine ag_send I κ c _ _ _ ?_ ?_ ?_ ?_ ?_ ?_ ?_ ?_
    · decide
    · decide
    · simp only [nxt_val, Nat.reduceAdd, Gen.k0_dev63_eq, Gen.k0_dev64_eq]
    · rfl
    · rfl
    · rfl
    · rfl
  refine run_ret c ?_
  rw [hK]
  clear hK K
  try dsimp only
  -- the second exchange
  repeat
    refine run_part c fun K hK => ?_
    simp only [
      k0_part50_eq_skeleton, k0_part51_eq_skeleton, k0_part52_eq_skeleton, k0_part53_eq_skeleton, k0_part54_eq_skeleton, k0_part55_eq_skeleton,
      k0_part56_eq_skeleton, k0_part57_eq_skeleton, k0_part58_eq_skeleton, k0_part59_eq_skeleton, k0_part60_eq_skeleton, k0_part50_skel,
      k0_part51_skel, k0_part52_skel, k0_part53_skel, k0_part54_skel, k0_part55_skel, k0_part56_skel, k0_part57_skel, k0_part58_skel, k0_part59_skel,
      k0_part60_skel, Prog.lift, Prog.bind_op, Prog.bind_ret, Prog.pure_eq_ret]
    repeat first
      | with_reducible refine ag_send I κ c _ _ _ ?_ ?_ ?_ ?_ ?_ ?_ ?_ ?_
        · decide
        · decide
        · simp only [nxt_val, Nat.reduceAdd,
            Gen.k0_dev65_eq, Gen.k0_dev66_eq, Gen.k0_dev67_eq, Gen.k0_dev68_eq, Gen.k0_dev69_eq, Gen.k0_dev70_eq, Gen.k0_dev71_eq, Gen.k0_dev72_eq,
            Gen.k0_dev73_eq, Gen.k0_dev74_eq, Gen.k0_dev75_eq, Gen.k0_dev76_eq, Gen.k0_dev77_eq, Gen.k0_dev78_eq, Gen.k0_dev79_eq, Gen.k0_dev80_eq,
            Gen.k0_dev81_eq, Gen.k0_dev82_eq, Gen.k0_dev83_eq, Gen.k0_dev84_eq, Gen.k0_dev85_eq, Gen.k0_dev86_eq, Gen.k0_dev87_eq, Gen.k0_dev88_eq,
            Gen.k0_dev89_eq, Gen.k0_dev90_eq, Gen.k0_dev91_eq, Gen.k0_dev92_eq, Gen.k0_dev93_eq]
        · rfl
        · rfl
        · rfl
        · rfl
      | with_reducible refine ag_last I κ c _ _ _ ?_ ?_ ?_ ?_
        · decide
        · rfl
        · rfl
        intro v hv
        obtain rfl := eq_of_heq hv
      | with_reducible refine out_load I c _ ?_ ?_
        · rfl
        intro _
      | with_reducible refine out_store I c _ ?_ ?_ ?_ ?_ ?_ ?_
        · decide
        · rfl
        · rfl
        · exact HEq.rfl
        · rfl
      | with_reducible refine ag_recv I κ c _ _ _ ?_ ?_ ?_ ?_ ?_
        · decide
        · decide
        · rfl
        · rfl
      | with_reducible refine ag_back I κ c _ _ _ ?_ ?_ ?_ ?_ ?_
        · decide
        · decide
        · rfl
        · rfl
    refine run_ret c ?_
    rw [hK]
    clear hK K
    try dsimp only
  refine run_ret c ?_
  rw [hK₀]
  clear hK₀ K₀
  try dsimp only
  repeat
    refine run_part c fun K hK => ?_
    simp only [
      k0_part61_eq_skeleton, k0_part62_eq_skeleton, k0_part63_eq_skeleton, k0_part64_eq_skeleton, k0_part65_eq_skeleton, k0_part66_eq_skeleton,
      k0_part67_eq_skeleton, k0_part68_eq_skeleton, k0_part69_eq_skeleton, k0_part70_eq_skeleton, k0_part71_eq_skeleton, k0_part72_eq_skeleton,
      k0_part73_eq_skeleton, k0_part74_eq_skeleton, k0_part75_eq_skeleton, k0_part76_eq_skeleton, k0_part77_eq_skeleton, k0_part78_eq_skeleton,
      k0_part79_eq_skeleton, k0_part80_eq_skeleton, k0_part81_eq_skeleton, k0_part61_skel, k0_part62_skel, k0_part63_skel, k0_part64_skel,
      k0_part65_skel, k0_part66_skel, k0_part67_skel, k0_part68_skel, k0_part69_skel, k0_part70_skel, k0_part71_skel, k0_part72_skel, k0_part73_skel,
      k0_part74_skel, k0_part75_skel, k0_part76_skel, k0_part77_skel, k0_part78_skel, k0_part79_skel, k0_part80_skel, k0_part81_skel, Prog.lift,
      Prog.bind_op, Prog.bind_ret, Prog.pure_eq_ret]
    repeat first
      | with_reducible refine ag_send I κ c _ _ _ ?_ ?_ ?_ ?_ ?_ ?_ ?_ ?_
        · decide
        · decide
        · simp only [nxt_val, Nat.reduceAdd,
            Gen.k0_dev65_eq, Gen.k0_dev66_eq, Gen.k0_dev67_eq, Gen.k0_dev68_eq, Gen.k0_dev69_eq, Gen.k0_dev70_eq, Gen.k0_dev71_eq, Gen.k0_dev72_eq,
            Gen.k0_dev73_eq, Gen.k0_dev74_eq, Gen.k0_dev75_eq, Gen.k0_dev76_eq, Gen.k0_dev77_eq, Gen.k0_dev78_eq, Gen.k0_dev79_eq, Gen.k0_dev80_eq,
            Gen.k0_dev81_eq, Gen.k0_dev82_eq, Gen.k0_dev83_eq, Gen.k0_dev84_eq, Gen.k0_dev85_eq, Gen.k0_dev86_eq, Gen.k0_dev87_eq, Gen.k0_dev88_eq,
            Gen.k0_dev89_eq, Gen.k0_dev90_eq, Gen.k0_dev91_eq, Gen.k0_dev92_eq, Gen.k0_dev93_eq]
        · rfl
        · rfl
        · rfl
        · rfl
      | with_reducible refine ag_last I κ c _ _ _ ?_ ?_ ?_ ?_
        · decide
        · rfl
        · rfl
        intro v hv
        obtain rfl := eq_of_heq hv
      | with_reducible refine out_load I c _ ?_ ?_
        · rfl
        intro _
      | with_reducible refine out_store I c _ ?_ ?_ ?_ ?_ ?_ ?_
        · decide
        · rfl
        · rfl
        · exact HEq.rfl
        · rfl
      | with_reducible refine ag_recv I κ c _ _ _ ?_ ?_ ?_ ?_ ?_
        · decide
        · decide
        · rfl
        · rfl
      | with_reducible refine ag_back I κ c _ _ _ ?_ ?_ ?_ ?_ ?_
        · decide
        · decide
        · rfl
        · rfl
    refine run_ret c ?_
    rw [hK]
    clear hK K
    try dsimp only
  exact run_end c (BIBase.Entails.trans (BIBase.Entails.trans (finish I κ c) (fupd_mono hQ)) fupd_trans)

end Cert.KernelIdeal.Talk
-- ==== Proof.Region.lean ====
/-
  The kernel call as one region of the program: what enters it, what it leaves, and that the body
  run takes the one to the other.
-/
module

public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.RegionTalk
public import Idealize.ShloMosaic.Lib.Pipeline.ValueKit
public import Idealize.ShloMosaic.Lib.Pipeline.FrameBody

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ)

/-- The inputs of the kernel call, as the region finds them. -/
def ins : Ins F where
  x c := V m c main_arg0
  k c := V m c main_v1
  v c := V m c main_v2
  wq c := V m c main_arg1
  wo c := V m c main_arg4

/-- The buffers the body addresses itself: the two weights. -/
def Hs : Finset (DevRef τ sig) := {Proc.devRef .tc main_arg1, Proc.devRef .tc main_arg4}

theorem held_Hs (c : Dev nD) (W : Valuation τ sig (Elt F)) :
    (StableHlo.held (c.tc : Thread nD τ) Hs W : sProp 𝕄)
      = iprop(qPt c Finset.univ (W (Proc.devRef .tc main_arg1)) ∗ wPt c Finset.univ (W (Proc.devRef .tc main_arg4))) := by
  unfold StableHlo.held
  rw [bigSep_eq_bigSepL_of_eq [Proc.devRef .tc main_arg1, Proc.devRef .tc main_arg4] (by decide) (by decide)]
  rfl

/-- The kernel's own DMA semaphores. -/
def osem : Fin 126 → SemLoc sig := fun k => .dma (dS (4 + k.val) (ltk k))

theorem ownSems_eq (c : Dev nD) : (Pipeline.ownSems0 osem c : sProp 𝕄) = bigSep Finset.univ fun k : Fin 126 => semVal (dCell c (4 + k.val) (ltk k)) 0 := rfl

/-- The tokens, positions and credit of device `c`, every cell open. -/
def Xr (c : Dev nD) : sProp 𝕄 :=
  iprop(bigSep Finset.univ (sgT (F := F) c) ∗ (dutyTok ER (dCell c 4 lt4) 0 0 ∗ atPos ER (dCell c 4 lt4) 0 ∅ 0)
    ∗ (dutyTok ER (dCell c 5 lt5) 0 0 ∗ atPos ER (dCell c 5 lt5) 0 ∅ 0) ∗ Bar c
    ∗ (bigSep Finset.univ (rsT (F := F) c) ∗ bigSep Finset.univ (agT (F := F) c)) ∗ bigSep Finset.univ (rvB (F := F) c) ∗ bigSep Finset.univ (avB (F := F) c))
/-- The same with the records every device may consult. -/
def Xk (c : Dev nD) : sProp 𝕄 := iprop((∃ κ, Cx (ins m) κ c) ∗ Xr c)

/-- What enters the body's invariant, and what it gives back. -/
def Φ0 (c : Dev nD) : sProp 𝕄 :=
  iprop(Pipeline.scopedRest spec0 c ∗ (∃ r, prngReg c r) ∗ StableHlo.held (c.tc : Thread nD τ) Hs (V0 m c) ∗ Xk m c)
def Φ1 (c : Dev nD) : sProp 𝕄 :=
  iprop(Pipeline.scopedRest spec0 c ∗ (∃ r, prngReg c r) ∗ StableHlo.held (c.tc : Thread nD τ) Hs (V0 m c) ∗ Pipeline.ownSems0 osem c ∗ semVal (barCell c) 0)

/-- What core `c` owes at the start. -/
def O₀ (c : Dev nD) : CellTallies nD τ sig Unit := owe c 0 0 0

/-- The region's data: every window's array as found, the inputs left in place, the result the kernel's. -/
def dat0 (c : Dev nD) : Dat τ (Elt F) Unit ℕ UU ℕ cfg0 c where
  A w := V m c (Pipeline.arrRef spec0 w)
  after := fun
    | 0 => iblk m c 0
    | 1 => iblk m c 1
    | 2 => iblk m c 2
    | 3 => fun _ => outV (ins m) c
    | ⟨_ + 4, h⟩ => absurd h (Nat.not_lt.2 (Nat.le_add_left _ _))
  Φ t := if t.val = 0 then Φ0 m c else Φ1 m c
  q _ := fullShare
  owed t := if t.val = 0 then O₀ c else 0

/-! ## The windows' blocks are their arrays -/

theorem stg_x (t : Fin cfg0.N) : (cfg0.win 0).stage (cfg0.slots t 0) = xW := by obtain rfl := fin_N0 t; rfl
theorem stg_k (t : Fin cfg0.N) : (cfg0.win 1).stage (cfg0.slots t 1) = kW := by obtain rfl := fin_N0 t; rfl
theorem stg_v (t : Fin cfg0.N) : (cfg0.win 2).stage (cfg0.slots t 2) = vW := by obtain rfl := fin_N0 t; rfl
theorem stg_o (t : Fin cfg0.N) : (cfg0.win 3).stage (cfg0.slots t 3) = oW := by obtain rfl := fin_N0 t; rfl

theorem blk_x (c : Dev nD) (t : Fin cfg0.N) : iblk m c 0 t = (ins m).x c := by
  obtain rfl := fin_N0 t
  refine funext fun i => congrArg ((ins m).x c) (funext fun a => Fin.ext ?_)
  refine (Pipeline.Window.rect_emb_val win0_0 t0_0 i a rfl).trans ?_
  fin_cases a <;> exact Nat.zero_add _

theorem blk_k (c : Dev nD) (t : Fin cfg0.N) : iblk m c 1 t = (ins m).k c := by
  obtain rfl := fin_N0 t
  refine funext fun i => congrArg ((ins m).k c) (funext fun a => Fin.ext ?_)
  refine (Pipeline.Window.rect_emb_val win0_1 t0_0 i a rfl).trans ?_
  fin_cases a <;> exact Nat.zero_add _

theorem blk_v (c : Dev nD) (t : Fin cfg0.N) : iblk m c 2 t = (ins m).v c := by
  obtain rfl := fin_N0 t
  refine funext fun i => congrArg ((ins m).v c) (funext fun a => Fin.ext ?_)
  refine (Pipeline.Window.rect_emb_val win0_2 t0_0 i a rfl).trans ?_
  fin_cases a <;> exact Nat.zero_add _

theorem before_x (c : Dev nD) (t : Fin cfg0.N) (d) : (dat0 m c).before 0 t d = (ins m).x c :=
  ((dat0 m c).before_in_eq_fetched 0 rfl (fun _ => rfl) (fun _ _ _ => rfl) (fun t => rfl) t d).trans (blk_x m c t)

theorem before_k (c : Dev nD) (t : Fin cfg0.N) (d) : (dat0 m c).before 1 t d = (ins m).k c :=
  ((dat0 m c).before_in_eq_fetched 1 rfl (fun _ => rfl) (fun _ _ _ => rfl) (fun t => rfl) t d).trans (blk_k m c t)

theorem before_v (c : Dev nD) (t : Fin cfg0.N) (d) : (dat0 m c).before 2 t d = (ins m).v c :=
  ((dat0 m c).before_in_eq_fetched 2 rfl (fun _ => rfl) (fun _ _ _ => rfl) (fun t => rfl) t d).trans (blk_v m c t)

theorem arr_o (c : Dev nD) : (dat0 m c).arrAt 3 cfg0.N = outV (ins m) c := by
  refine (dat0 m c).arrAt_eq_of_after_last 3 t0_0 (by decide +kernel) _ fun j => ?_
  blk_simp
  rfl

theorem owns_x (c : Dev nD) (t : Fin cfg0.N) (X : Vec F S2x512x768 .f32) :
    (owns (c : Thread nD τ) ((cfg0.win 0).stage (cfg0.slots t 0)) fullShare X : sProp 𝕄) = xPt c X := by
  obtain rfl := fin_N0 t
  exact owns_whole (c : Thread nD τ) cc0_stg0_0 fullShare X

theorem owns_k (c : Dev nD) (t : Fin cfg0.N) (X : Vec F S2x8x512x64 .f32) :
    (owns (c : Thread nD τ) ((cfg0.win 1).stage (cfg0.slots t 1)) fullShare X : sProp 𝕄) = kPt c X := by
  obtain rfl := fin_N0 t
  exact owns_whole (c : Thread nD τ) cc0_stg1_0 fullShare X

theorem owns_v (c : Dev nD) (t : Fin cfg0.N) (X : Vec F S2x8x512x64 .f32) :
    (owns (c : Thread nD τ) ((cfg0.win 2).stage (cfg0.slots t 2)) fullShare X : sProp 𝕄) = vPt c X := by
  obtain rfl := fin_N0 t
  exact owns_whole (c : Thread nD τ) cc0_stg2_0 fullShare X

theorem owns_o (c : Dev nD) (t : Fin cfg0.N) (X : Vec F S1024x768 .f32) :
    (owns (c : Thread nD τ) ((cfg0.win 3).stage (cfg0.slots t 3)) fullShare X : sProp 𝕄) = oPt c X := by
  obtain rfl := fin_N0 t
  exact owns_whole (c : Thread nD τ) cc0_stg3_0 fullShare X

/-! ## The body takes the region's entry to its exit -/

theorem owed_first (c : Dev nD) : (dat0 m c).owed t0_0.castSucc = O₀ c := rfl
theorem owed_last (c : Dev nD) : (dat0 m c).owed t0_0.succ = 0 := rfl

theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin
  rw [h0]
  iintro ⟨%W, -, HO⟩
  iexists W; iexact HO

theorem qPt_split (c : Dev nD) (f : Vec F S768x16384 .f32) :
    (qPt c Finset.univ f : sProp 𝕄) = iprop(qPt c (qM c).view.set f ∗ qPt c (Finset.univ \ (qM c).view.set) f) := by
  have h := pointsTo_union (nD := nD) (τ := τ) (sig := sig) (Ix := Unit) (Val := Elt F) (Name := ℕ) (U := UU) (Lvl := ℕ) (ℓ := qW.view.loc (c : Thread nD τ))
    (q := fullShare) (f := f) (Finset.disjoint_sdiff (s := (qM c).view.set) (t := Finset.univ))
  rw [Finset.union_sdiff_of_subset (Finset.subset_univ _)] at h
  exact h.mp.antisymm h.mpr
theorem wPt_split (c : Dev nD) (f : Vec F S16384x768 .f32) :
    (wPt c Finset.univ f : sProp 𝕄) = iprop(wPt c (wM c).view.set f ∗ wPt c (Finset.univ \ (wM c).view.set) f) := by
  have h := pointsTo_union (nD := nD) (τ := τ) (sig := sig) (Ix := Unit) (Val := Elt F) (Name := ℕ) (U := UU) (Lvl := ℕ) (ℓ := wW.view.loc (c : Thread nD τ))
    (q := fullShare) (f := f) (Finset.disjoint_sdiff (s := (wM c).view.set) (t := Finset.univ))
  rw [Finset.union_sdiff_of_subset (Finset.subset_univ _)] at h
  exact h.mp.antisymm h.mpr

theorem start_intro (κ : GSem nD τ sig → ℕ) (c : Dev nD) (fa : Vec F S768x512 .f32) (fb : Vec F S512x768 .f32) (fp fg : Vec F S1024x768 .bf16)
    (fr : Vec F S31x32x768 .bf16) (fo : Vec F S1024x768 .f32) (I : Ins F) :
    iprop(Cx I κ c ∗ Xr c ∗ Ow c 0 0 0 ∗ Xs I c ∗ aPt c fa ∗ bPt c fb ∗ pPt c Finset.univ fp ∗ gPt c Finset.univ fullShare fg ∗ rPt c Finset.univ fr
        ∗ qPt c (qM c).view.set (I.wq c) ∗ wPt c (wM c).view.set (I.wo c) ∗ oPt c fo)
      ⊢ Start I κ c fp fg fo := by
  unfold Start Sg wgA wgB Later Xr
  rw [life_none]
  iintro ⟨#HC, ⟨HT, ⟨Hk4, Ha4⟩, ⟨Hk5, Ha5⟩, HB, Hts, Hrv, Hav⟩, HO, HX, Ha, Hb, Hp, Hg, Hr, Hq, Hw, Ho⟩
  ihave H := (entry_sg I κ c fr fg) $$ [HT Hr Hg]
  · isplitr; · iexact HC
    isplitl [HT]; · iexact HT
    isplitl [Hr] <;> iassumption
  icases H with ⟨HS, Hg⟩
  isplitl [HO HS]
  · isplitr; · iexact HC
    isplitl [HO] <;> iassumption
  isplitl [Hk4 Ha4 Ha Hq]
  · isplitl [Hk4]; · iexact Hk4
    isplitl [Ha]; · iexists fa; iexact Ha
    isplitl [Hq] <;> iassumption
  isplitl [Hk5 Ha5 Hb Hw]
  · isplitl [Hk5]; · iexact Hk5
    isplitl [Hb]; · iexists fb; iexact Hb
    isplitl [Hw] <;> iassumption
  isplitl [HX]; · iexact HX
  isplitl [Hp]; · iexact Hp
  isplitl [HB]; · iexact HB
  isplitl [Hts]; · iexact Hts
  isplitl [Hrv]; · iexact Hrv
  isplitl [Hav]; · iexact Hav
  isplitl [Hg] <;> iassumption

/-- What the region leaves beside what the body is done with. -/
def Rest (c : Dev nD) : sProp 𝕄 :=
  iprop((∃ r, prngReg c r) ∗ qPt c (Finset.univ \ (qM c).view.set) ((ins m).wq c) ∗ wPt c (Finset.univ \ (wM c).view.set) ((ins m).wo c))

theorem scoped_eq (c : Dev nD) : (Pipeline.scopedRest spec0 c : sProp 𝕄)
    = iprop((∃ f, aPt c f) ∗ (∃ f, bPt c f) ∗ (∃ f, pPt c Finset.univ f) ∗ (∃ f, gPt c Finset.univ fullShare f) ∗ (∃ f, rPt c Finset.univ f)) :=
  scopedRest0_eq c

theorem enter (c : Dev nD) (fo : Vec F S1024x768 .f32) :
    iprop(Φ0 m c ∗ Ow c 0 0 0 ∗ Xs (ins m) c ∗ oPt c fo) ⊢ iprop(∃ κ fp fg, Start (ins m) κ c fp fg fo ∗ Rest m c) := by
  unfold Φ0 Xk Rest
  rw [held_Hs, scoped_eq, show V0 m c (Proc.devRef .tc main_arg1) = (ins m).wq c from rfl, show V0 m c (Proc.devRef .tc main_arg4) = (ins m).wo c from rfl,
    qPt_split, wPt_split]
  iintro ⟨⟨⟨⟨%fa, Ha⟩, ⟨%fb, Hb⟩, ⟨%fp, Hp⟩, ⟨%fg, Hg⟩, ⟨%fr, Hr⟩⟩, Hprng, ⟨⟨Hq, Hq'⟩, ⟨Hw, Hw'⟩⟩, ⟨%κ, #HC⟩, HX⟩, HO, Hs, Ho⟩
  iexists κ
  iexists fp
  iexists fg
  isplitr [Hprng Hq' Hw']
  · iapply (start_intro κ c fa fb fp fg fr fo (ins m))
    isplitr; · iexact HC
    isplitl [HX]; · iexact HX
    isplitl [HO]; · iexact HO
    isplitl [Hs]; · iexact Hs
    isplitl [Ha]; · iexact Ha
    isplitl [Hb]; · iexact Hb
    isplitl [Hp]; · iexact Hp
    isplitl [Hg]; · iexact Hg
    isplitl [Hr]; · iexact Hr
    isplitl [Hq]; · iexact Hq
    isplitl [Hw] <;> iassumption
  isplitl [Hprng]; · iexact Hprng
  isplitl [Hq'] <;> iassumption

theorem leave (c : Dev nD) :
    iprop(Done (ins m) c ∗ Rest m c) ⊢ iprop(Φ1 m c ∗ (∃ W, owes (c : Thread nD τ) (0 : CellTallies nD τ sig Unit) W) ∗ Xs (ins m) c ∗ oPt c (outV (ins m) c)) := by
  unfold Φ1 Done Rest Ow At Xs
  rw [held_Hs, scoped_eq, ownSems_eq, owe_end, show V0 m c (Proc.devRef .tc main_arg1) = (ins m).wq c from rfl, show V0 m c (Proc.devRef .tc main_arg4) = (ins m).wo c from rfl,
    qPt_split, wPt_split]
  iintro ⟨⟨HO, ⟨Hx, Hk, Hv, Ha, Hb⟩, ⟨Hq, Hw⟩, Hp, Hr, Hg, Ho, Hbar, Hsem⟩, Hprng, Hq', Hw'⟩
  isplitr [HO Hx Hk Hv Ho]
  · isplitl [Ha Hb Hp Hr Hg]
    · isplitl [Ha]; · iexists _; iexact Ha
      isplitl [Hb]; · iexists _; iexact Hb
      isplitl [Hp]; · iexists _; iexact Hp
      isplitl [Hg]; · iexists _; iexact Hg
      iexists _; iexact Hr
    isplitl [Hprng]; · iexact Hprng
    isplitl [Hq Hq' Hw Hw']
    · isplitl [Hq Hq']
      · isplitl [Hq] <;> iassumption
      isplitl [Hw] <;> iassumption
    isplitl [Hsem] <;> iassumption
  isplitl [HO]; · iexact HO
  isplitr [Ho]
  · isplitl [Hx]; · iexact Hx
    isplitl [Hk] <;> iassumption
  iexact Ho

theorem run_kept (κ : GSem nD τ sig → ℕ) (c : Dev nD) (fp fg : Vec F S1024x768 .bf16) (fo : Vec F S1024x768 .f32) :
    iprop(Start (ins m) κ c fp fg fo ∗ Rest m c)
      ⊢ Run c (body (F := F)) fun _ => iprop(Φ1 m c ∗ (∃ W, owes (c : Thread nD τ) (0 : CellTallies nD τ sig Unit) W) ∗ Xs (ins m) c ∗ oPt c (outV (ins m) c)) :=
  (BI.sep_mono_l (body_run (ins m) κ c fp fg fo (fun _ => Done (ins m) c) (by iintro H; imodintro; iexact H))).trans
    ((wp_frame_r _ _ _).trans (wp_mono _ _ _ fun _ => leave m c))

theorem region_run (c : Dev nD) (fo : Vec F S1024x768 .f32) :
    iprop(Φ0 m c ∗ Ow c 0 0 0 ∗ Xs (ins m) c ∗ oPt c fo)
      ⊢ Run c (body (F := F)) fun _ => iprop(Φ1 m c ∗ (∃ W, owes (c : Thread nD τ) (0 : CellTallies nD τ sig Unit) W) ∗ Xs (ins m) c ∗ oPt c (outV (ins m) c)) := by
  refine (enter m c fo).trans ?_
  iintro ⟨%κ, %fp, %fg, HS, HR⟩
  iapply (run_kept m κ c fp fg fo)
  isplitl [HS] <;> iassumption

theorem owes_first (c : Dev nD) : ((dat0 m c).owesAt () t0_0.castSucc : sProp 𝕄) ⊢ Ow c 0 0 0 := owesAt_elim (dat0 m c) _ (O₀ c) (owed_first m c)

theorem in_x (c : Dev nD) (d) : (owns (c : Thread nD τ) ((cfg0.win 0).stage (cfg0.slots t0_0 0)) fullShare ((dat0 m c).before 0 t0_0 d) : sProp 𝕄)
    ⊢ xPt c ((ins m).x c) := by
  rw [before_x, owns_x]
theorem out_x (c : Dev nD) : xPt c ((ins m).x c)
    ⊢ (owns (c : Thread nD τ) ((cfg0.win 0).stage (cfg0.slots t0_0 0)) fullShare ((dat0 m c).after 0 t0_0) : sProp 𝕄) := by
  rw [show (dat0 m c).after 0 t0_0 = (ins m).x c from blk_x m c t0_0, owns_x]

theorem in_k (c : Dev nD) (d) : (owns (c : Thread nD τ) ((cfg0.win 1).stage (cfg0.slots t0_0 1)) fullShare ((dat0 m c).before 1 t0_0 d) : sProp 𝕄)
    ⊢ kPt c ((ins m).k c) := by
  rw [before_k, owns_k]
theorem out_k (c : Dev nD) : kPt c ((ins m).k c)
    ⊢ (owns (c : Thread nD τ) ((cfg0.win 1).stage (cfg0.slots t0_0 1)) fullShare ((dat0 m c).after 1 t0_0) : sProp 𝕄) := by
  rw [show (dat0 m c).after 1 t0_0 = (ins m).k c from blk_k m c t0_0, owns_k]

theorem in_v (c : Dev nD) (d) : (owns (c : Thread nD τ) ((cfg0.win 2).stage (cfg0.slots t0_0 2)) fullShare ((dat0 m c).before 2 t0_0 d) : sProp 𝕄)
    ⊢ vPt c ((ins m).v c) := by
  rw [before_v, owns_v]
theorem out_v (c : Dev nD) : vPt c ((ins m).v c)
    ⊢ (owns (c : Thread nD τ) ((cfg0.win 2).stage (cfg0.slots t0_0 2)) fullShare ((dat0 m c).after 2 t0_0) : sProp 𝕄) := by
  rw [show (dat0 m c).after 2 t0_0 = (ins m).v c from blk_v m c t0_0, owns_v]

theorem point_run (c : Dev nD) :
    iprop(Φ0 m c ∗ (dat0 m c).owesAt () t0_0.castSucc ∗ xPt c ((ins m).x c) ∗ kPt c ((ins m).k c) ∗ vPt c ((ins m).v c) ∗ ∃ fo, oPt c fo)
      ⊢ Run c (body (F := F)) fun _ => iprop(Φ1 m c ∗ (dat0 m c).owesAt () t0_0.succ ∗ xPt c ((ins m).x c) ∗ kPt c ((ins m).k c) ∗ vPt c ((ins m).v c)
          ∗ oPt c (outV (ins m) c)) := by
  iintro ⟨HΦ, HO, Hx, Hk, Hv, ⟨%fo, Ho⟩⟩
  ihave HO := (owes_first m c) $$ HO
  iapply ((region_run m c fo).trans (wp_mono _ _ _ fun _ => ?_))
  rotate_left
  · isplitl [HΦ]; · iexact HΦ
    isplitl [HO]; · iexact HO
    isplitr [Ho]
    · unfold Xs
      isplitl [Hx]; · iexact Hx
      isplitl [Hk] <;> iassumption
    iexact Ho
  unfold Xs
  iintro ⟨HΦ, HO, ⟨Hx, Hk, Hv⟩, Ho⟩
  isplitl [HΦ]; · iexact HΦ
  isplitl [HO]; · iapply (owesAt_intro (dat0 m c) _ 0 (owed_last m c) rfl); iexact HO
  isplitl [Hx]; · iexact Hx
  isplitl [Hk]; · iexact Hk
  isplitl [Hv] <;> iassumption

theorem row : defs₀ (F := F) .tc cfg0.body (cfg0.bodyArgs t0_0 (cfg0.slots t0_0)) = body := by
  unfold defs₀
  rw [Defs.onTc_tc]

theorem body_obligation (c : Dev nD) : BodyObligation (dat0 m c) defs₀ 𝒱₀ () Set.univ := fun t => by
  obtain rfl := fin_N0 t
  rw [bigSep_W0, bigSep_W0]
  rw [show (dat0 m c).Φ t0_0.castSucc = Φ0 m c from rfl, show (dat0 m c).Φ t0_0.succ = Φ1 m c from rfl]
  refine triple_restated (point_run m c) (congrArg _ row.symm) ?_ fun _ => ?_
  · iintro ⟨HΦ, HO, ⟨%dx, Hx⟩, ⟨%dk, Hk⟩, ⟨%dv, Hv⟩, ⟨%d, Ho⟩⟩
    isplitl [HΦ]; · iexact HΦ
    isplitl [HO]; · iexact HO
    isplitl [Hx]; · iapply (in_x m c dx); iexact Hx
    isplitl [Hk]; · iapply (in_k m c dk); iexact Hk
    isplitl [Hv]; · iapply (in_v m c dv); iexact Hv
    iexists _
    iapply (Entails.of_eq (owns_o c t0_0 _)); iexact Ho
  · iintro ⟨HΦ, HO, Hx, Hk, Hv, Ho⟩
    isplitl [HΦ]; · iexact HΦ
    isplitl [HO]; · iexact HO
    isplitl [Hx]; · iapply (out_x m c); iexact Hx
    isplitl [Hk]; · iapply (out_k m c); iexact Hk
    isplitl [Hv]; · iapply (out_v m c); iexact Hv
    iapply (Entails.of_eq (owns_o c t0_0 _).symm); iexact Ho

end Cert.KernelIdeal.Talk
-- ==== Proof.Segment.lean ====
/-
  The kernel call as a segment of the program: opened from the rights the launch hands out, and
  left with its result in place.
-/
module

public import proofs.«01_k».proof.Proof.Region
public import Idealize.ShloMosaic.Lib.Rounds.Family

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ)

/-! ## Opening the cells -/

/-- The records every device may consult. -/
def Rec (I : Ins F) (κ : GSem nD τ sig → ℕ) : sProp 𝕄 :=
  iprop((bigSep Finset.univ fun d : Dev nD => cellInv ER (sched I) (κ (barCell d)) (barCell d))
    ∗ (bigSep Finset.univ fun p : Dev nD × Fin 126 => cellInv ER (sched I) (κ (dCell p.1 (4 + p.2.val) (ltk p.2))) (dCell p.1 (4 + p.2.val) (ltk p.2)))
    ∗ (bigSep Finset.univ fun d : Dev nD => reached ER (barCell d) 0))

instance Rec_persistent (I : Ins F) (κ : GSem nD τ sig → ℕ) : BI.Persistent (Rec I κ) := by
  unfold Rec; infer_instance

/-- The tokens of the duties device `c` pays. -/
def Tok (c : Dev nD) : sProp 𝕄 :=
  iprop((bigSep Finset.univ fun j : Fin 31 => dutyTok ER (barCell (nxt c j.val)) 0 j)
    ∗ ((dutyTok ER (dCell c 4 lt4) 0 0 ∗ dutyTok ER (dCell c 5 lt5) 0 0) ∗ bigSep Finset.univ fun j : Fin 31 => dutyTok ER (dCell c (6 + j.val) (lt6 j.isLt)) 0 0)
    ∗ (bigSep Finset.univ fun j : Fin 31 => dutyTok ER (dCell (nxt c j.val) (37 + (30 - j.val)) (lt37r _)) 0 0)
    ∗ (bigSep Finset.univ fun j : Fin 31 => dutyTok ER (dCell c (68 + j.val) (lt68 j.isLt)) 0 0)
    ∗ (bigSep Finset.univ fun j : Fin 31 => dutyTok ER (dCell (nxt c j.val) (99 + (30 - j.val)) (lt99r _)) 0 0))

/-- The credit for what the other devices send. -/
def Crd (c : Dev nD) : sProp 𝕄 :=
  iprop(cred (tallyAt (barCell c) () 31)
    ∗ (bigSep Finset.univ fun j : Fin 31 => cred (tallyAt (dCell c (37 + (30 - j.val)) (lt37r _)) () N))
    ∗ (bigSep Finset.univ fun j : Fin 31 => cred (tallyAt (dCell c (99 + (30 - j.val)) (lt99r _)) () N)))

/-- What the launch keeps for device `c`. -/
def Tk (c : Dev nD) : sProp 𝕄 :=
  iprop((∃ κ, Rec (ins m) κ) ∗ (atPos ER (barCell c) 0 ∅ 0 ∗ (bigSep Finset.univ fun k : Fin 126 => openTok ER (dCell c (4 + k.val) (ltk k))) ∗ Tok c) ∗ Crd c)

theorem rec_dma (I : Ins F) (κ : GSem nD τ sig → ℕ) (c : Dev nD) (k : Fin 126) :
    Rec I κ ⊢ cellInv ER (sched I) (κ (dCell c (4 + k.val) (ltk k))) (dCell c (4 + k.val) (ltk k)) := by
  have h := bigSep_elim (Finset.mem_univ (c, k))
    (Φ := fun p : Dev nD × Fin 126 => (cellInv ER (sched I) (κ (dCell p.1 (4 + p.2.val) (ltk p.2))) (dCell p.1 (4 + p.2.val) (ltk p.2)) : sProp 𝕄))
  refine BIBase.Entails.trans ?_ h
  unfold Rec
  iintro ⟨-, H, -⟩
  iexact H

theorem open_all (I : Ins F) (κ : GSem nD τ sig → ℕ) (c : Dev nD) :
    iprop(Rec I κ ∗ (bigSep Finset.univ fun k : Fin 126 => openTok ER (dCell c (4 + k.val) (ltk k)))
        ∗ (bigSep Finset.univ fun k : Fin 126 => semVal (dCell c (4 + k.val) (ltk k)) 0))
      ⊢ |={Set.univ}=> bigSep Finset.univ fun k : Fin 126 => iprop(atPos ER (dCell c (4 + k.val) (ltk k)) 0 ∅ 0 ∗ reached ER (dCell c (4 + k.val) (ltk k)) 0) := by
  refine BIBase.Entails.trans ?_ (Rounds.cells_open ER (sched I) Finset.univ (fun k : Fin 126 => dCell c (4 + k.val) (ltk k))
    (fun k => κ (dCell c (4 + k.val) (ltk k))) (fun k _ => Set.mem_univ _))
  iintro ⟨#HR, Ho, Hs⟩
  isplitr [Hs]
  · iapply (bigSep_with_persistent (R := Rec I κ) (S := Finset.univ) (Φ := fun k : Fin 126 => openTok ER (dCell c (4 + k.val) (ltk k)))
      (Ψ := fun k : Fin 126 => iprop(cellInv ER (sched I) (κ (dCell c (4 + k.val) (ltk k))) (dCell c (4 + k.val) (ltk k)) ∗ openTok ER (dCell c (4 + k.val) (ltk k)))) (fun k _ => by
        iintro ⟨#HR, H⟩
        isplitr; · iapply (rec_dma I κ c k); iexact HR
        iexact H))
    isplitr; · iexact HR
    iexact Ho
  iexact Hs

theorem opened (c : Dev nD) :
    (bigSep Finset.univ fun k : Fin 126 => iprop(atPos ER (dCell c (4 + k.val) (ltk k)) 0 ∅ 0 ∗ reached ER (dCell c (4 + k.val) (ltk k)) 0) : sProp 𝕄)
      = iprop((bigSep Finset.univ fun k : Fin 126 => atPos ER (dCell c (4 + k.val) (ltk k)) 0 ∅ 0)
        ∗ bigSep Finset.univ fun k : Fin 126 => reached ER (dCell c (4 + k.val) (ltk k)) 0) := bigSep_sep' _ _ _

theorem positions (c : Dev nD) :
    (bigSep Finset.univ fun k : Fin 126 => (atPos ER (dCell c (4 + k.val) (ltk k)) 0 ∅ 0 : sProp 𝕄))
      = iprop(((atPos ER (dCell c 4 lt4) 0 ∅ 0 ∗ atPos ER (dCell c 5 lt5) 0 ∅ 0) ∗ bigSep Finset.univ fun j : Fin 31 => atPos ER (dCell c (6 + j.val) (lt6 j.isLt)) 0 ∅ 0)
        ∗ (bigSep Finset.univ fun j : Fin 31 => atPos ER (dCell c (37 + (30 - j.val)) (lt37r _)) 0 ∅ 0)
        ∗ (bigSep Finset.univ fun j : Fin 31 => atPos ER (dCell c (68 + j.val) (lt68 j.isLt)) 0 ∅ 0)
        ∗ (bigSep Finset.univ fun j : Fin 31 => atPos ER (dCell c (99 + (30 - j.val)) (lt99r _)) 0 ∅ 0)) :=
  bigSep_cells fun k : Fin 130 => (atPos ER (dCell c k.val k.isLt) 0 ∅ 0 : sProp 𝕄)

theorem hopen (c : Dev nD) : iprop(Tk m c ∗ Pipeline.ownSems0 osem c ∗ levAts L lv) ⊢ (|={Set.univ}=> Xk m c : sProp 𝕄) := by
  rw [ownSems_eq]
  unfold Tk Xk Xr Tok Crd
  iintro ⟨⟨⟨%κ, #HR⟩, ⟨Hb, Hop, HtB, ⟨⟨Ht4, Ht5⟩, HtS⟩, HtR, HtG, HtA⟩, HcB, HcR, HcA⟩, Hs, #HL⟩
  imod (open_all (ins m) κ c) $$ [Hop Hs] with H
  · isplitr; · iexact HR
    isplitl [Hop] <;> iassumption
  ihave H' := (Entails.of_eq (opened (F := F) c)) $$ H
  icases H' with ⟨Hat, #Hre⟩
  ihave H := (Entails.of_eq (positions (F := F) c)) $$ Hat
  icases H with ⟨⟨⟨Ha4, Ha5⟩, HaS⟩, HaR, HaG, HaA⟩
  imodintro
  isplitr
  · iexists κ
    unfold Rec Cx
    icases HR with ⟨#H1, #H2, #H3⟩
    isplitr; · iexact H1
    isplitr; · iexact H2
    isplitr; · iexact HL
    isplitr; · iexact H3
    iexact Hre
  isplitl [HtB]; · unfold sgT; iexact HtB
  isplitl [Ht4 Ha4]; · isplitl [Ht4] <;> iassumption
  isplitl [Ht5 Ha5]; · isplitl [Ht5] <;> iassumption
  isplitl [HcB Hb]; · unfold Bar; isplitl [HcB] <;> iassumption
  isplitl [HtS HtR HaS HtG HtA HaG]
  · isplitl [HtS HtR HaS]
    · unfold rsT
      rw [bigSep_sep', bigSep_sep']
      isplitl [HtS]; · iexact HtS
      isplitl [HtR] <;> iassumption
    unfold agT
    rw [bigSep_sep', bigSep_sep']
    isplitl [HtG]; · iexact HtG
    isplitl [HtA] <;> iassumption
  isplitl [HcR HaR]
  · unfold rvB Pend
    rw [bigSep_sep']
    isplitl [HcR] <;> iassumption
  unfold avB Pend
  rw [bigSep_sep']
  isplitl [HcA] <;> iassumption

/-! ## The segment -/

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers of the program no window stages. -/
def Sr : Finset (DevRef τ sig) := Pipeline.ucRefs τ sig \ Pipeline.arrRefs (τ := τ) spec0
theorem Hs_sub : Hs ⊆ Sr := by decide

/-- The contents the kernel call leaves. -/
def V1 (c : Dev nD) : Valuation τ sig (Elt F) := Pipeline.withArrays spec0 c (V0 m c) fun w => (dat0 m c).arrAt w cfg0.N

theorem V1_arr (c : Dev nD) (w : Fin 4) : V1 m c (Proc.devRef .tc (Pipeline.arrRef spec0 w)) = (dat0 m c).arrAt w cfg0.N :=
  Pipeline.withArrays_arr spec0 winFacts0.arr_inj c _ _ w
theorem V1_other (c : Dev nD) (b : DevRef τ sig) (hb : b ∈ Sr) : V1 m c b = V0 m c b := by
  have e : Sr = Finset.map ⟨Proc.devRef (τ := τ) .tc, Proc.devRef_injective _⟩ {main_arg1, main_arg2, main_arg3, main_arg4, main_v4} := by decide
  rw [e] at hb
  obtain ⟨r, hr, rfl⟩ := Finset.mem_map.mp hb
  exact Pipeline.withArrays_of_ne spec0 c _ _ r ((by decide : ∀ r ∈ ({main_arg1, main_arg2, main_arg3, main_arg4, main_v4} : Finset (Ref sig .tc)),
    ∀ w, Pipeline.arrRef spec0 w ≠ r) r hr)

theorem owed_cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases owe_pos c 0 0 0 g i h with ⟨j, -, rfl⟩ | ⟨j, -, rfl⟩ | ⟨j, -, rfl⟩
    · exact ⟨by rw [L_tc]; exact Finset.mem_singleton_self _, by rw [lv_bar]; exact Nat.one_pos⟩
    · have := j.isLt
      exact ⟨by rw [L_tc]; exact Finset.mem_singleton_self _, by rw [lv_dma, if_neg (by omega), if_pos (by omega)]; omega⟩
    · have := j.isLt
      exact ⟨by rw [L_tc]; exact Finset.mem_singleton_self _, by rw [lv_dma, if_neg (by omega), if_neg (by omega), if_neg (by omega)]; omega⟩
  · exact absurd h (Nat.lt_irrefl 0)

theorem hin (c : Dev nD) : iprop(Pipeline.scopedRest (Pipeline.pin (pcfgs (F := F)) adm 0).spec c ∗ (∃ r, prngReg c r) ∗ StableHlo.held (c.tc : Thread nD τ) Hs (V0 m c) ∗ Xk m c)
    ⊢ (pdats m 0 c).Φ 0 := BI.Entails.refl _

theorem held_kept (c : Dev nD) : (StableHlo.held (c.tc : Thread nD τ) Hs (V0 m c) : sProp 𝕄) = StableHlo.held (c.tc : Thread nD τ) Hs (V1 m c) :=
  StableHlo.held_congr _ fun b hb => (V1_other m c b (Hs_sub hb)).symm

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V1 m c)
      ∗ Pipeline.ownSems0 osem c ∗ semVal (barCell c) 0) := by
  rw [← held_kept]
  exact BI.Entails.refl _

theorem lv_stage (c : Dev nD) (w : Fin 4) (s : Fin ((Pipeline.pin (pcfgs (F := F)) adm 0).win w).nbuf) :
    lv ((c : Thread nD τ), .dma (((Pipeline.pin (pcfgs (F := F)) adm 0).win w).sem s)) () ≤ 0 := by
  fin_cases w <;> exact Nat.le_refl _

theorem share_full (c : Dev nD) (w : Fin (Pipeline.pin (pcfgs (F := F)) adm 0).W) : (pdats m 0 c).share w = fullShare := by
  unfold Dat.share
  split <;> rfl

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr Hs_sub kitP rfl (fun c => (body_obligation m c).loose)
    (fun _ => 0) O₀ (fun c => (zero_add _).symm) (fun c => rfl) (fun _ => rfl) (share_full m)
    (V0 m) (V1 m) (fun c b hb => V1_other m c b (Finset.mem_sdiff.mp hb).1)
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => lv_stage c w s, fun c t g i h => owed_cut m c t g i h⟩
    (fun _ => iprop(emp))
    (fun _ _ => rfl) (fun c w => (V1_arr m c w).symm)

end Cert.KernelIdeal.Talk
-- ==== Proof.Rights.lean ====
/-
  What the launch hands each device: the credit for what it will receive, and the tokens of the
  duties it pays.
-/
module

public import proofs.«01_k».proof.Proof.Segment

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ UU ℕ

/-! ## One step round the ring is a rearrangement of the devices -/

def rot (j : Fin 31) : Dev nD ≃ Dev nD where
  toFun c := nxt c j.val
  invFun c := nxt c (30 - j.val)
  left_inv c := nxt_back c j.val j.isLt
  right_inv c := nxt_fwd c j.val j.isLt

theorem bigSep_rot {M : Type} [URA M] (Ψ : Dev nD → Fin 31 → sProp M) :
    (bigSep Finset.univ fun c : Dev nD => bigSep Finset.univ fun j : Fin 31 => Ψ c j)
      = bigSep Finset.univ fun c : Dev nD => bigSep Finset.univ fun j : Fin 31 => Ψ (nxt c j.val) j := by
  rw [BI.bigSep_univ_comm, BI.bigSep_univ_comm (fun (c : Dev nD) (j : Fin 31) => Ψ (nxt c j.val) j)]
  exact bigSep_congr fun j _ => bigSep_univ_equiv (rot j) fun c => Ψ c j

theorem sum_rot (h : Dev nD → Fin 31 → ℕ) : (∑ d : Dev nD, ∑ j : Fin 31, h (nxt d j.val) j) = ∑ j : Fin 31, ∑ c : Dev nD, h c j := by
  rw [Finset.sum_comm]
  exact Finset.sum_congr rfl fun j _ => Equiv.sum_comp (rot j) fun c => h c j

/-! ## The credit -/

theorem bar_eq {c c' : Dev nD} : barCell c = barCell c' ↔ c = c' :=
  ⟨fun h => congrArg (fun g : GSem nD τ sig => g.1.1) h, fun h => congrArg barCell h⟩
theorem dCell_eq {c c' : Dev nD} {k k' : ℕ} {h : k < 130} {h' : k' < 130} : dCell c k h = dCell c' k' h' ↔ c = c' ∧ k = k' := by
  constructor
  · intro e
    refine ⟨congrArg (fun g : GSem nD τ sig => g.1.1) e, ?_⟩
    exact congrArg (fun g : GSem nD τ sig => match g.2 with | .reg _ => 0 | .dma s => (show Fin 130 from s).val) e
  · rintro ⟨rfl, rfl⟩; rfl
theorem bar_ne_dCell {c c' : Dev nD} {k : ℕ} {h : k < 130} : barCell c ≠ dCell c' k h := by
  intro e
  exact absurd (show (0 : ℕ) = 1 from congrArg (fun g : GSem nD τ sig => match g.2 with | .reg _ => 0 | .dma s => 1) e) (by decide)

theorem sum_at {n : ℕ} (f : Fin 31 → GSem nD τ sig) (g : GSem nD τ sig) :
    (∑ j : Fin 31, (tallyAt (f j) () n : CellTallies nD τ sig Unit)) g () = ∑ j : Fin 31, if g = f j then n else 0 := by
  rw [Finset.sum_apply, Finsupp.finsetSum_apply]
  exact Finset.sum_congr rfl fun j _ => by rw [tallyAt_apply]; simp only [and_true]

/-- What all the devices owe on a cell at the start. -/
theorem owed_on (g : GSem nD τ sig) :
    (∑ d : Dev nD, O₀ d g ()) = (∑ j : Fin 31, ∑ c : Dev nD, if g = barCell c then 1 else 0)
      + (∑ j : Fin 31, ∑ c : Dev nD, if g = dCell c (37 + (30 - j.val)) (lt37r _) then N else 0)
      + ∑ j : Fin 31, ∑ c : Dev nD, if g = dCell c (99 + (30 - j.val)) (lt99r _) then N else 0 := by
  rw [← sum_rot (fun c _ => if g = barCell c then 1 else 0), ← sum_rot (fun c j => if g = dCell c (37 + (30 - j.val)) (lt37r _) then N else 0),
    ← sum_rot (fun c j => if g = dCell c (99 + (30 - j.val)) (lt99r _) then N else 0), ← Finset.sum_add_distrib, ← Finset.sum_add_distrib]
  refine Finset.sum_congr rfl fun d _ => ?_
  unfold O₀ owe oweB oweR oweG
  rw [Finset.filter_true_of_mem (fun j _ => Nat.zero_le _), Pi.add_apply, Finsupp.add_apply, Pi.add_apply, Finsupp.add_apply, sum_at, sum_at, sum_at]

theorem owed_bar (c : Dev nD) : (∑ d : Dev nD, O₀ d (barCell c) ()) = 31 := by
  rw [owed_on]
  simp only [bar_eq, bar_ne_dCell, if_false, Finset.sum_const_zero, add_zero, Finset.sum_ite_eq, Finset.mem_univ, if_true, Finset.sum_const, Finset.card_univ,
    Fintype.card_fin, smul_eq_mul, mul_one]
theorem owed_rs (c : Dev nD) (i : Fin 31) : (∑ d : Dev nD, O₀ d (dCell c (37 + (30 - i.val)) (lt37r _)) ()) = N := by
  rw [owed_on]
  have hi := i.isLt
  have e : ∀ j : Fin 31, (37 + (30 - i.val) = 37 + (30 - j.val)) ↔ i = j := fun j => by have := j.isLt; rw [Fin.ext_iff]; omega
  have n : ∀ j : Fin 31, ¬ 37 + (30 - i.val) = 99 + (30 - j.val) := fun j => by omega
  simp only [bar_ne_dCell.symm, dCell_eq, e, n, and_false, if_false, Finset.sum_const_zero, zero_add, add_zero, ite_and, Finset.sum_ite_eq, Finset.mem_univ, if_true]
theorem owed_ag (c : Dev nD) (i : Fin 31) : (∑ d : Dev nD, O₀ d (dCell c (99 + (30 - i.val)) (lt99r _)) ()) = N := by
  rw [owed_on]
  have hi := i.isLt
  have e : ∀ j : Fin 31, (99 + (30 - i.val) = 99 + (30 - j.val)) ↔ i = j := fun j => by have := j.isLt; rw [Fin.ext_iff]; omega
  have n : ∀ j : Fin 31, ¬ 99 + (30 - i.val) = 37 + (30 - j.val) := fun j => by omega
  simp only [bar_ne_dCell.symm, dCell_eq, e, n, and_false, if_false, Finset.sum_const_zero, zero_add, add_zero, ite_and, Finset.sum_ite_eq, Finset.mem_univ, if_true]

theorem credit_of (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem osem_inj : Function.Injective osem := fun a b h => by
  have h' := congrArg (fun s : SemLoc sig => match s with | .reg _ => 0 | .dma s => (show Fin 130 from s).val) h
  exact Fin.ext (Nat.add_left_cancel (h' : 4 + a.val = 4 + b.val))

/-- The barrier and the kernel's own DMA semaphores. -/
def semEmb : Unit ⊕ Fin 126 ↪ SemLoc sig :=
  ⟨Sum.elim (fun _ => .reg barS) osem, fun a b h => by
    rcases a with a | a <;> rcases b with b | b
    · rfl
    · exact absurd (h : SemLoc.reg barS = osem b) (by intro h; cases h)
    · exact absurd (h : osem a = SemLoc.reg barS) (by intro h; cases h)
    · exact congrArg Sum.inr (osem_inj h)⟩

/-- The launch credit of one cell. -/
def lc (g : GSem nD τ sig) : sProp 𝕄 := cred (tallyOn g (launchCredit (Pipeline.owing O₀) 0 g))

theorem lc_eq (g : GSem nD τ sig) (n : ℕ) (h : (∑ d : Dev nD, O₀ d g ()) = n) : (lc g : sProp 𝕄) ⊢ cred (tallyAt g () n) :=
  Entails.of_eq (congrArg cred (credit_of g n h))

theorem lc_all (c : Dev nD) : (Pipeline.launchCred O₀ c : sProp 𝕄) ⊢ iprop(lc (barCell c) ∗ bigSep Finset.univ fun k : Fin 126 => lc (dCell c (4 + k.val) (ltk k))) := by
  show (bigSep Finset.univ fun sm : SemLoc sig => lc ((c : Thread nD τ), sm) : sProp 𝕄) ⊢ _
  refine (bigSep_subset (Finset.subset_univ (Finset.univ.map semEmb))).trans ?_
  rw [bigSep_map, bigSep_univ_sum, bigSep_univ_of_subsingleton ()]
  exact BI.Entails.refl _

theorem lc_cells (c : Dev nD) :
    (bigSep Finset.univ fun k : Fin 126 => (lc (dCell c (4 + k.val) (ltk k)) : sProp 𝕄))
      = iprop(((lc (dCell c 4 lt4) ∗ lc (dCell c 5 lt5)) ∗ bigSep Finset.univ fun j : Fin 31 => lc (dCell c (6 + j.val) (lt6 j.isLt)))
        ∗ (bigSep Finset.univ fun j : Fin 31 => lc (dCell c (37 + (30 - j.val)) (lt37r _)))
        ∗ (bigSep Finset.univ fun j : Fin 31 => lc (dCell c (68 + j.val) (lt68 j.isLt)))
        ∗ (bigSep Finset.univ fun j : Fin 31 => lc (dCell c (99 + (30 - j.val)) (lt99r _)))) :=
  bigSep_cells fun k : Fin 130 => (lc (dCell c k.val k.isLt) : sProp 𝕄)

theorem lc_fam (c : Dev nD) (f : Fin 31 → GSem nD τ sig) (n : ℕ) (h : ∀ j, (∑ d : Dev nD, O₀ d (f j) ()) = n) :
    (bigSep Finset.univ fun j : Fin 31 => (lc (f j) : sProp 𝕄)) ⊢ bigSep Finset.univ fun j : Fin 31 => cred (tallyAt (f j) () n) :=
  bigSep_mono fun j _ => lc_eq (f j) n (h j)

theorem creds (c : Dev nD) : (Pipeline.launchCred O₀ c : sProp 𝕄) ⊢ Crd c := by
  refine (lc_all c).trans ?_
  rw [lc_cells]
  unfold Crd
  iintro ⟨HB, -, HR, -, HA⟩
  isplitl [HB]; · iapply (lc_eq (barCell c) 31 (owed_bar c)) $$ HB
  isplitl [HR]
  · iapply (lc_fam c (fun j => dCell c (37 + (30 - j.val)) (lt37r _)) N (owed_rs c)) $$ HR
  iapply (lc_fam c (fun j => dCell c (99 + (30 - j.val)) (lt99r _)) N (owed_ag c)) $$ HA

end Cert.KernelIdeal.Talk
-- ==== Proof.Deal.lean ====
/-
  The launch: every cell's invariant allocated, the scoped cells dormant, and the tokens dealt to
  the devices that pay the duties.
-/
module

public import proofs.«01_k».proof.Proof.Rights

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def barEmb : Dev nD ↪ GSem nD τ sig := ⟨barCell, fun _ _ h => bar_eq.mp h⟩
def scEmb : Dev nD × Fin 126 ↪ GSem nD τ sig :=
  ⟨fun p => dCell p.1 (4 + p.2.val) (ltk p.2), fun p q h => by
    have h' := dCell_eq.mp h
    exact Prod.ext h'.1 (Fin.ext (Nat.add_left_cancel h'.2))⟩

/-- The barrier cells, funded from their counters; the kernel's own cells, funded dormant. -/
abbrev barCells : Finset (GSem nD τ sig) := Finset.univ.map barEmb
abbrev scCells : Finset (GSem nD τ sig) := Finset.univ.map scEmb

theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact bar_ne_dCell (h : dCell p.1 (4 + p.2.val) (ltk p.2) = barCell c).symm

/-- Every duty's token. -/
def tokEmb : Dev nD × (Fin 31 ⊕ Fin 126) ↪ GSem nD τ sig × ℕ × Fin 31 :=
  ⟨fun p => match p.2 with | .inl j => (barCell p.1, 0, j) | .inr k => (dCell p.1 (4 + k.val) (ltk k), 0, 0), by
    rintro ⟨c, a | a⟩ ⟨d, b | b⟩ h
    · have h1 := bar_eq.mp (congrArg Prod.fst h)
      have h2 : a = b := congrArg (fun x : GSem nD τ sig × ℕ × Fin 31 => x.2.2) h
      rw [show c = d from h1, h2]
    · exact absurd (congrArg Prod.fst h) bar_ne_dCell
    · exact absurd (congrArg Prod.fst h).symm bar_ne_dCell
    · have h1 := dCell_eq.mp (congrArg Prod.fst h)
      rw [show c = d from h1.1, Fin.ext (Nat.add_left_cancel h1.2)]⟩
def toks : Finset (GSem nD τ sig × ℕ × Fin 31) := Finset.univ.map tokEmb

/-- The launch element: the staging cells' and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- All of a resource on one device. -/
def onDev (X : sProp 𝕄) (c : Dev nD) : sProp 𝕄 := if c = 0 then X else iprop(emp)
theorem bigSep_onDev (X : sProp 𝕄) : bigSep Finset.univ (onDev X) = X := by
  rw [bigSep_univ_at _ (0 : Dev nD), bigSep_congr (s := Finset.univ.erase (0 : Dev nD)) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp
def G : Dev nD → sProp 𝕄 := onDev (BI.own (ER (launchOf barCells scCells toks)))

/-! ## Dealing -/

theorem deal_rec (I : Ins F) (κ : GSem nD τ sig → ℕ) :
    iprop((bigSep (barCells ∪ scCells) fun g => cellInv ER (sched I) (κ g) g) ∗ bigSep barCells fun g => reached ER g 0) ⊢ Rec I κ := by
  rw [bigSep_union disjoint_cells, bigSep_map, bigSep_map, bigSep_map]
  unfold Rec
  exact BI.sep_assoc

theorem deal_toks : bigSep toks (fun x => (dutyTok ER x.1 x.2.1 x.2.2 : sProp 𝕄)) = bigSep Finset.univ fun c : Dev nD => Tok c := by
  unfold toks
  rw [bigSep_map, bigSep_univ_prod]
  have e : ∀ c : Dev nD, (bigSep Finset.univ fun t : Fin 31 ⊕ Fin 126 => (dutyTok ER (tokEmb (c, t)).1 (tokEmb (c, t)).2.1 (tokEmb (c, t)).2.2 : sProp 𝕄))
      = iprop((bigSep Finset.univ fun j : Fin 31 => dutyTok ER (barCell c) 0 j)
        ∗ ((dutyTok ER (dCell c 4 lt4) 0 0 ∗ dutyTok ER (dCell c 5 lt5) 0 0) ∗ bigSep Finset.univ fun j : Fin 31 => dutyTok ER (dCell c (6 + j.val) (lt6 j.isLt)) 0 0)
        ∗ (bigSep Finset.univ fun j : Fin 31 => dutyTok ER (dCell c (37 + (30 - j.val)) (lt37r _)) 0 0)
        ∗ (bigSep Finset.univ fun j : Fin 31 => dutyTok ER (dCell c (68 + j.val) (lt68 j.isLt)) 0 0)
        ∗ (bigSep Finset.univ fun j : Fin 31 => dutyTok ER (dCell c (99 + (30 - j.val)) (lt99r _)) 0 0)) := fun c => by
    rw [bigSep_univ_sum]
    exact congrArg (BI.sep _) (bigSep_cells fun k : Fin 130 => (dutyTok ER (dCell c k.val k.isLt) 0 0 : sProp 𝕄))
  rw [bigSep_congr fun c _ => e c]
  unfold Tok
  simp only [bigSep_sep']
  rw [bigSep_rot (fun c j => (dutyTok ER (barCell c) 0 j : sProp 𝕄)), bigSep_rot (fun c j => (dutyTok ER (dCell c (37 + (30 - j.val)) (lt37r _)) 0 0 : sProp 𝕄)),
    bigSep_rot (fun c j => (dutyTok ER (dCell c (99 + (30 - j.val)) (lt99r _)) 0 0 : sProp 𝕄))]

/-! ## What each device enters the program with -/

/-- The contents at launch. -/
def M0 (c : Dev nD) : Valuation τ sig (Elt F) := fun b => m (c, b)

/-- What rides beside the buffers to the kernel call. -/
def R (c : Dev nD) : sProp 𝕄 := iprop((∃ r, prngReg c r) ∗ Tk m c ∗ ∃ W, owes (c : Thread nD τ) (O₀ c) W)
def T₀ (c : Dev nD) : sProp 𝕄 := iprop(StableHlo.held (c.tc : Thread nD τ) (Pipeline.ucRefs τ sig) (M0 m c) ∗ R m c)

/-- The protocol's rights of one device. -/
def Lin (c : Dev nD) : sProp 𝕄 :=
  iprop(atPos ER (barCell c) 0 ∅ 0 ∗ (bigSep Finset.univ fun k : Fin 126 => openTok ER (dCell c (4 + k.val) (ltk k))) ∗ Tok c)
/-- What of a device's launch holdings is not the protocol's. -/
def Own (c : Dev nD) : sProp 𝕄 :=
  iprop(StableHlo.held (c.tc : Thread nD τ) (Pipeline.ucRefs τ sig) (M0 m c) ∗ Crd c ∗ owes (c : Thread nD τ) (O₀ c) ∅ ∗ ∃ r, prngReg c r)

theorem T₀_intro (κ : GSem nD τ sig → ℕ) (c : Dev nD) : iprop(Rec (ins m) κ ∗ (Lin c ∗ Own m c)) ⊢ T₀ m c := by
  unfold Lin Own T₀ R Tk
  iintro ⟨#HR, Hl, Hh, HC, HO, Hp⟩
  isplitl [Hh]; · iexact Hh
  isplitl [Hp]; · iexact Hp
  isplitr [HO]
  · isplitr; · iexists κ; iexact HR
    isplitl [Hl] <;> iassumption
  iexists ∅; iexact HO

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem core_holds (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(Own m c ∗ semVal (barCell c) 0 ∗ G c) : sProp 𝕄) := by
  rw [show unscopedBufs c (fun b => m ((c : Thread nD τ).loc b)) = StableHlo.held (c.tc : Thread nD τ) (Pipeline.ucRefs τ sig) (M0 m c)
    from Pipeline.unscopedBufs_held c (M0 m c), unscopedSems_eq]
  unfold Own
  iintro ⟨Hh, Hus, HO, Hcr, Hp, HG⟩
  isplitl [Hh HO Hcr Hp]
  · isplitl [Hh]; · iexact Hh
    isplitl [Hcr]; · iapply (creds (F := F) c) $$ Hcr
    isplitl [HO]; · iexact HO
    iexists (ρ c); iexact Hp
  isplitl [Hus] <;> iassumption

theorem cores_hold :
    (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop(bigSep Finset.univ (Own m) ∗ (bigSep barCells fun g => semVal g 0) ∗ BI.own (ER (launchOf barCells scCells toks))) : sProp 𝕄) := by
  refine (bigSep_mono fun c _ => core_holds m ρ c).trans ?_
  rw [bigSep_sep', bigSep_sep', show bigSep Finset.univ (G (F := F)) = _ from bigSep_onDev _, bigSep_map]
  exact BI.Entails.refl _

theorem deal_lin :
    iprop((bigSep barCells fun g => atPos ER g 0 ∅ 0) ∗ (bigSep scCells fun g => openTok ER g) ∗ bigSep toks (fun x => dutyTok ER x.1 x.2.1 x.2.2))
      ⊢ (bigSep Finset.univ fun c : Dev nD => Lin c : sProp 𝕄) := by
  unfold Lin
  rw [deal_toks, bigSep_sep', bigSep_sep', bigSep_map, bigSep_map, bigSep_univ_prod]
  exact BI.Entails.refl _

theorem deal (κ : GSem nD τ sig → ℕ) :
    iprop(Rec (ins m) κ ∗ (bigSep Finset.univ fun c : Dev nD => Lin c) ∗ bigSep Finset.univ (Own m)) ⊢ (bigSep Finset.univ (T₀ m) : sProp 𝕄) := by
  rw [← bigSep_sep']
  exact bigSep_with_persistent (R := Rec (ins m) κ) (Φ := fun c => iprop(Lin c ∗ Own m c)) fun c _ => T₀_intro m κ c

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H' := (cores_hold m ρ) $$ H
  icases H' with ⟨HO, Hv, Hu⟩
  imod (Rounds.fund_launch ER (sched (ins m)) disjoint_cells (fun g _ h => h) toks) $$ [Hv Hu] with ⟨%κ, -, Hinv, Hr, Hat, Hopen, Htok⟩
  · isplitl [Hv] <;> iassumption
  imodintro
  iapply (deal m κ)
  isplitl [Hinv Hr]
  · iapply (deal_rec (ins m) κ)
    isplitl [Hinv] <;> iassumption
  isplitr [HO]
  · iapply (deal_lin (F := F))
    isplitl [Hat]; · iexact Hat
    isplitl [Hopen] <;> iassumption
  iexact HO

end Cert.KernelIdeal.Talk
-- ==== Proof.Launch.lean ====
/-
  The run of the whole program, over any float values: the arguments unchanged, the result the
  kernel's output reshaped, every semaphore at zero.
-/
module

public import proofs.«01_k».proof.Proof.Deal

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2 ix3)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What rides beside the buffers after the kernel call. -/
def R1 (c : Dev nD) : sProp 𝕄 := iprop(semVal (barCell c) 0 ∗ ∃ W, owes (c : Thread nD τ) (0 : CellTallies nD τ sig Unit) W)

def host0 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (List.forall_iff_forall_mem.mp hostOps0_fresh) (M0 m) (R m)
def host1 : Pipeline.HostSeg (Ix := Unit) (Name := ℕ) (U := UU) (Lvl := ℕ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (List.forall_iff_forall_mem.mp hostOps1_fresh) (V1 m) R1

/-- The program's three segments. -/
def segs : List (Pipeline.Seg (pcfgs (F := F)) adm (pdats m) () defs₀ 𝒱₀ L lv) := [.host (host0 m), .region (reg m), .host (host1 m)]

theorem main_is (c : Dev nD) : main (F := F) c = Pipeline.Seg.run (segs m) :=
  Gen.main_segs adm (pdats m) () 𝒱₀ L lv (host0 m) (host1 m) (reg m) rfl rfl c

theorem arr_sub : Pipeline.arrRefs (τ := τ) spec0 ⊆ Pipeline.ucRefs τ sig := by decide

theorem held_split (c : Dev nD) (W : Valuation τ sig (Elt F)) :
    (StableHlo.held (c.tc : Thread nD τ) (Pipeline.ucRefs τ sig) W : sProp 𝕄)
      = iprop(StableHlo.held (c.tc : Thread nD τ) (Pipeline.arrRefs (τ := τ) spec0) W ∗ StableHlo.held (c.tc : Thread nD τ) Sr W) :=
  StableHlo.held_sub_split (c.tc : Thread nD τ) arr_sub W

theorem reg_pre (c : Dev nD) : iprop(StableHlo.held (c.tc : Thread nD τ) (Pipeline.ucRefs τ sig) (V0 m c) ∗ R m c) ⊢ (reg m).pre c := by
  show _ ⊢ iprop(StableHlo.held (c.tc : Thread nD τ) (Pipeline.arrRefs (τ := τ) spec0) (V0 m c) ∗ (∃ r, prngReg c r)
    ∗ (StableHlo.held (c.tc : Thread nD τ) Sr (V0 m c) ∗ emp) ∗ Tk m c ∗ ∃ Wd, owes (c : Thread nD τ) (0 + O₀ c) Wd)
  rw [held_split, zero_add]
  unfold R
  iintro ⟨⟨Ha, Hs⟩, Hp, HT, HO⟩
  isplitl [Ha]; · iexact Ha
  isplitl [Hp]; · iexact Hp
  isplitl [Hs]
  · isplitl [Hs]; · iexact Hs
    iempintro
  isplitl [HT] <;> iassumption

theorem reg_post (c : Dev nD) : (reg m).post c ⊢ iprop(StableHlo.held (c.tc : Thread nD τ) (Pipeline.ucRefs τ sig) (V1 m c) ∗ R1 c) := by
  show iprop(StableHlo.held (c.tc : Thread nD τ) (Pipeline.arrRefs (τ := τ) spec0) (V1 m c) ∗ (∃ r, prngReg c r)
    ∗ (StableHlo.held (c.tc : Thread nD τ) Sr (V1 m c) ∗ emp) ∗ semVal (barCell c) 0 ∗ ∃ Wd, owes (c : Thread nD τ) (0 : CellTallies nD τ sig Unit) Wd) ⊢ _
  rw [held_split]
  unfold R1
  iintro ⟨Ha, -, ⟨Hs, -⟩, Hb, HO⟩
  isplitl [Ha Hs]; · isplitl [Ha] <;> iassumption
  isplitl [Hb] <;> iassumption

/-! ## The contents at the end -/

def V2 (c : Dev nD) : Valuation τ sig (Elt F) := StableHlo.after hostOps1 (V1 m c)

theorem hostOps1_keep (c : Dev nD) (W : Valuation τ sig (Elt F)) (b : Ref sig .tc) (hb : b ≠ main_v4) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem V1_arr' (c : Dev nD) : V1 m c (Proc.devRef .tc main_v3) = outV (ins m) c := (V1_arr m c 3).trans (arr_o m c)

theorem V2_arg0 (c : Dev nD) : V2 m c (Proc.devRef .tc main_arg0) = m ((c : Thread nD τ).loc main_arg0) := by
  unfold V2
  rw [hostOps1_keep c _ main_arg0 (by decide)]
  exact (V1_arr m c 0).trans (((dat0 m c).arrAt_in 0 rfl _).trans (V_main_arg0 m c))

theorem V2_rest (c : Dev nD) (b : Ref sig .tc) (hb : Proc.devRef .tc b ∈ Sr) (hne : b ≠ main_v4) (h : V m c b = m ((c : Thread nD τ).loc b)) :
    V2 m c (Proc.devRef .tc b) = m ((c : Thread nD τ).loc b) := by
  unfold V2
  rw [hostOps1_keep c _ b hne]
  exact (V1_other m c _ hb).trans h

theorem V2_res (c : Dev nD) : V2 m c (Proc.devRef .tc main_v4) = shapeCast S2x512x768 (outV (ins m) c) shapeCasts_S1024x768_S2x512x768 := by
  unfold V2
  rw [show (hostOps1 : List (HloOp τ sig (Elt F))) = [StableHlo.reshape main_v3 main_v4 (rfl : (.f32 : EltTy) = .f32) shapeCasts_S1024x768_S2x512x768] from rfl,
    StableHlo.after_cons, StableHlo.after_nil, StableHlo.reshape_result', V1_arr' m c]
  rfl

/-! ## The run -/

theorem held_named (c : Dev nD) (W : Valuation τ sig (Elt F)) :
    (StableHlo.held (c.tc : Thread nD τ) (Pipeline.ucRefs τ sig) W : sProp 𝕄)
      ⊢ iprop((((c : Thread nD τ).loc main_arg0) ↦{fullShare} W (Proc.devRef .tc main_arg0)) ∗ (((c : Thread nD τ).loc main_arg1) ↦{fullShare} W (Proc.devRef .tc main_arg1))
        ∗ (((c : Thread nD τ).loc main_arg2) ↦{fullShare} W (Proc.devRef .tc main_arg2)) ∗ (((c : Thread nD τ).loc main_arg3) ↦{fullShare} W (Proc.devRef .tc main_arg3))
        ∗ (((c : Thread nD τ).loc main_arg4) ↦{fullShare} W (Proc.devRef .tc main_arg4)) ∗ (((c : Thread nD τ).loc main_v4) ↦{fullShare} W (Proc.devRef .tc main_v4))) := by
  unfold StableHlo.held
  refine (bigSep_subset (t := Finset.map ⟨Proc.devRef (τ := τ) .tc, Proc.devRef_injective _⟩ {main_arg0, main_arg1, main_arg2, main_arg3, main_arg4, main_v4}) (by decide)).trans ?_
  rw [bigSep_eq_bigSepL_of_eq [Proc.devRef .tc main_arg0, Proc.devRef .tc main_arg1, Proc.devRef .tc main_arg2, Proc.devRef .tc main_arg3, Proc.devRef .tc main_arg4,
    Proc.devRef .tc main_v4] (by decide) (by decide)]
  exact BI.Entails.refl _

/-- What the program leaves on device `c`. -/
def Left_ (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4))
  ∧ s.mem ((c : Thread nD τ).loc main_v4) = shapeCast S2x512x768 (outV (ins m) c) shapeCasts_S1024x768_S2x512x768

def Tₙ (c : Dev nD) : sProp 𝕄 := iprop(StableHlo.held (c.tc : Thread nD τ) (Pipeline.ucRefs τ sig) (V2 m c) ∗ semVal (barCell c) 0)

theorem read_end (c : Dev nD) (s' : Phys nD τ sig (Elt F)) :
    iprop(Tₙ m c ∗ SI s') ⊢ |={Set.univ}=> iprop(⌜Left_ m c s'.mem ∧ s'.mem.sem (barCell c) = 0⌝ ∗ SI s') := by
  unfold Tₙ
  iintro ⟨⟨Hh, Hb⟩, HSI⟩
  ihave H := (held_named c (V2 m c)) $$ Hh
  icases H with ⟨H0, H1, H2, H3, H4, H5⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨⟨(Buf.eq_of_forall_mem_univ h0).trans (V2_arg0 m c),
      (Buf.eq_of_forall_mem_univ h1).trans (V2_rest m c main_arg1 (by decide) (by decide) (V_main_arg1 m c)),
      (Buf.eq_of_forall_mem_univ h2).trans (V2_rest m c main_arg2 (by decide) (by decide) (V_main_arg2 m c)),
      (Buf.eq_of_forall_mem_univ h3).trans (V2_rest m c main_arg3 (by decide) (by decide) (V_main_arg3 m c)),
      (Buf.eq_of_forall_mem_univ h4).trans (V2_rest m c main_arg4 (by decide) (by decide) (V_main_arg4 m c))⟩,
      (Buf.eq_of_forall_mem_univ h5).trans (V2_res m c)⟩, by simpa using hb⟩
  iexact HSI

theorem unscoped_eq : ∀ sm : SemLoc sig, sm.isScoped .tc = false → sm = .reg barS := by decide

theorem launch_own : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀ G
  iintro Hu
  ihave H := (ownU_pair _ _) $$ Hu
  icases H with ⟨HP, HX⟩
  imodintro
  isplitl [HP]; · iexact HP
  rw [bigSep_onDev]; iexact HX

theorem seg_last (c : Dev nD) : (host1 m).post c ⊢ iprop(Tₙ m c ∗ ∃ W, owes (c : Thread nD τ) (0 : CellTallies nD τ sig Unit) W) := by
  show iprop(StableHlo.held (c.tc : Thread nD τ) (Pipeline.ucRefs τ sig) (V2 m c) ∗ R1 c) ⊢ _
  unfold R1 Tₙ
  iintro ⟨Hh, Hb, HO⟩
  isplitr [HO]
  · isplitl [Hh] <;> iassumption
  iexact HO

set_option backward.isDefEq.respectTransparency.types false in
/-- From any memory with every semaphore at zero the program runs to the end, and leaves the arguments as they were, the
    result at the kernel's output, and every semaphore at zero. -/
theorem run_main : θ_run defs (onTc (τ := τ) (main (F := F))) ⟨m, fun _ => 0, ρ⟩ (fun r => (∀ c : Dev nD, Left_ m c r.2) ∧ r.2.sem = fun _ => 0) :=
  Pipeline.θ_run_regions_kit_sems (pcfgs (F := F)) adm (pdats m) () cellOf_inj EP defs₀ 𝒱₀ L lv m ρ main (segs m)
    (fun c Q => by rw [main_is m c])
    (by simp only [segs, Pipeline.Seg.pipes_host, Pipeline.Seg.pipes_region, Pipeline.Seg.pipes_nil]; decide)
    (O₀ := O₀) (hL := L_of_ne) (G := G) (u₀ := u₀) (hu₀ := launch_own)
    (T₀ := T₀ m) (Tₙ := Tₙ m)
    (hch := ⟨fun c => .rfl, fun c => reg_pre m c, fun c => reg_post m c, fun c => seg_last m c⟩)
    (hinit := init m ρ)
    (QY := fun c s => Left_ m c s ∧ s.sem (barCell c) = 0)
    (hfin := read_end m)
    (hQ := fun s h hs => ⟨fun c => (h c).1, sem_eq_zero hs fun c sm hsm => by
        obtain rfl := unscoped_eq sm hsm
        exact (h c).2⟩)

end Cert.KernelIdeal.Talk
-- ==== Proof.Heads.lean ====
/-
  One head's attention as scalars over the extended reals, and the kernel's head read at an index as that function.
-/
module

public import proofs.«01_k».proof.Proof.Contents
public import Idealize.ShloMosaic.Lib.Pointwise
public import Idealize.ShloMosaic.Lib.Routing.OpsOrder

@[expose] public section

set_option maxRecDepth 16384

noncomputable section

namespace Cert.KernelIdeal.Talk

open Idealize.ShloMosaic Idealize.ShloMosaic.TcCoe
open Cert.KernelIdeal.Gen

/-! ## One head, as scalars -/

/-- Whether query `i` sees key `j`: the distance between them, as signed words, is at most 128. -/
def seen (i j : Fin 512) : BitVec 1 :=
  IntOp.cmpi .sle (IntOp.absi (IntOp.subi (BitVec.ofNat 32 i.val) (BitVec.ofNat 32 j.val))) 128#32

/-- The masked and scaled score of query `i` against key `j`. -/
def score (q k : Fin 512 → Fin 64 → EReal) (i j : Fin 512) : EReal :=
  Scalar.select (seen i j) ((∑ d : Fin 64, q i d * k j d) * Ideal.ofBits .f32 0x3E000000#32) (Ideal.ofBits .f32 0xCE6E6B28#32)

/-- The largest score of query `i`. -/
def top (q k : Fin 512 → Fin 64 → EReal) (i : Fin 512) : EReal :=
  Finset.univ.fold max (Ideal.ofBits .f32 0xFF800000#32) fun j => score q k i j

/-- The weight of key `j` before the division. -/
def wgt (q k : Fin 512 → Fin 64 → EReal) (i j : Fin 512) : EReal := Ideal.exp (score q k i j - top q k i)

/-- One head: the weighted mean of the values. -/
def head (q k v : Fin 512 → Fin 64 → EReal) (i : Fin 512) (d : Fin 64) : EReal :=
  ∑ j : Fin 512, Ideal.div (wgt q k i j) (∑ l : Fin 512, wgt q k i l) * v j d

theorem mask_apply (i j : Fin 512) : k0_pay1 (ix2 i j) = seen i j := by
  pointwise [k0_pay1, seen]

theorem headAt_apply (q : FVec Ideal S512x512 .f32) (o : ℕ) (ho : S512x512.Slices ![0, o] S512x64) (hn : ∀ d : Fin 64, o + d.val < 512)
    (kb vb : Vec Ideal S1x1x512x64 .f32) (i : Fin 512) (d : Fin 64) :
    headAt k0_pay1 q o ho kb vb (ix2 i d)
      = head (fun i d => q (ix2 i ⟨o + d.val, hn d⟩)) (fun j d => kb (ix4 0 0 j d)) (fun j d => vb (ix4 0 0 j d)) i d := by
  pointwise [headAt, head, wgt, top, score]
  simp only [mask_apply]

end Cert.KernelIdeal.Talk
-- ==== Proof.Value.lean ====
/-
  The kernel's result over the extended reals: a sum over all devices of each device's heads times its rows of the output weights.
-/
module

public import proofs.«01_k».proof.Proof.Heads
public import proofs.«01_k».proof.Proof.Rights
public import Idealize.ShloMosaic.Lib.Pointwise.IndexBridge

@[expose] public section

set_option maxRecDepth 16384

noncomputable section

namespace Cert.KernelIdeal.Talk

open Idealize.ShloMosaic Idealize.ShloMosaic.TcCoe
open Cert.KernelIdeal.Gen

variable (I : Ins Ideal)

/-! ## The loads at an index -/

theorem col_lt (c : Dev nD) (n : Fin 512) : 512 * c.val + n.val < 16384 := by
  have h : c.val < 32 := c.isLt
  omega

theorem xB_apply (c : Dev nD) (b : Fin 2) (r : Fin 512) (k : Fin 768) : xB I c b (ix3 0 r k) = I.x c (ix3 b r k) :=
  congrArg (I.x c) (funext fun
    | 0 => Fin.ext (show b.val + 1 * 0 = b.val by omega)
    | 1 => Fin.ext (show 0 + 1 * r.val = r.val by omega)
    | 2 => Fin.ext (show 0 + 1 * k.val = k.val by omega))

theorem kB_apply (c : Dev nD) (b : Fin 2) (h : Fin 8) (r : Fin 512) (d : Fin 64) : kB I c b h (ix4 0 0 r d) = I.k c (ix4 b h r d) :=
  congrArg (I.k c) (funext fun
    | 0 => Fin.ext (show b.val + 1 * 0 = b.val by omega)
    | 1 => Fin.ext (show h.val + 1 * 0 = h.val by omega)
    | 2 => Fin.ext (show 0 + 1 * r.val = r.val by omega)
    | 3 => Fin.ext (show 0 + 1 * d.val = d.val by omega))

theorem vB_apply (c : Dev nD) (b : Fin 2) (h : Fin 8) (r : Fin 512) (d : Fin 64) : vB I c b h (ix4 0 0 r d) = I.v c (ix4 b h r d) :=
  congrArg (I.v c) (funext fun
    | 0 => Fin.ext (show b.val + 1 * 0 = b.val by omega)
    | 1 => Fin.ext (show h.val + 1 * 0 = h.val by omega)
    | 2 => Fin.ext (show 0 + 1 * r.val = r.val by omega)
    | 3 => Fin.ext (show 0 + 1 * d.val = d.val by omega))

/-- An index of a block of rank 2, by the block's offsets. -/
theorem unit_emb2 {A B a b : ℕ} (off : Fin 2 → ℕ) (o0 o1 : ℕ) (ho : off = ![o0, o1]) (inb) (x : Fin a) (y : Fin b) (h0 : o0 + x.val < A) (h1 : o1 + y.val < B) :
    (Rect.unit (s := (⟨2, ![A, B]⟩ : Shape)) off ![a, b] inb).emb (ix2 x y) = (ix2 ⟨o0 + x.val, h0⟩ ⟨o1 + y.val, h1⟩ : (⟨2, ![A, B]⟩ : Shape).Idx) := by
  subst ho
  funext i
  match i with
  | 0 => exact Fin.ext (show o0 + 1 * x.val = o0 + x.val by omega)
  | 1 => exact Fin.ext (show o1 + 1 * y.val = o1 + y.val by omega)

theorem wqL_apply (c : Dev nD) (k : Fin 768) (n : Fin 512) : wqL I c (ix2 k n) = I.wq c (ix2 k ⟨512 * c.val + n.val, col_lt c n⟩) := by
  refine (congrArg (wqS I c) (unit_emb2 (A := 768) (B := 512) ![0, 0] 0 0 rfl _ k n (by omega) (by omega))).trans ?_
  refine (congrArg (I.wq c) (unit_emb2 (A := 768) (B := 16384) (k0_off1 c) 0 (512 * c.val) (k0_off1_eq c) _ _ _ (by simp) (by have := col_lt c n; simpa using this))).trans ?_
  simp only [Nat.zero_add]

theorem woL_apply (c : Dev nD) (n : Fin 512) (o : Fin 768) : woL I c (ix2 n o) = I.wo c (ix2 ⟨512 * c.val + n.val, col_lt c n⟩ o) := by
  refine (congrArg (woS I c) (unit_emb2 (A := 512) (B := 768) ![0, 0] 0 0 rfl _ n o (by omega) (by omega))).trans ?_
  refine (congrArg (I.wo c) (unit_emb2 (A := 16384) (B := 768) (k0_off2 c) (512 * c.val) 0 (k0_off2_eq c) _ _ _ (by have := col_lt c n; simpa using this) (by simp))).trans ?_
  simp only [Nat.zero_add]

theorem ownL_apply (c : Dev nD) (r : Fin 32) (o : Fin 768) : ownL I c (ix2 r o) = pV I c (ix2 ⟨32 * c.val + r.val, row_lt c r⟩ o) := by
  refine (congrArg (pV I c) (unit_emb2 (A := 1024) (B := 768) (k0_off3 c) (32 * c.val) 0 (k0_off3_eq c) _ r o (row_lt c r) (by omega))).trans ?_
  simp only [Nat.zero_add]

theorem slotL_apply (c : Dev nD) (k : Fin 31) (r : Fin 32) (o : Fin 768) :
    slotL I c k (ix3 0 r o) = pV I (nxt c k.val) (ix2 ⟨32 * c.val + r.val, row_lt c r⟩ o) := by
  have e : (Rect.unit (s := S31x32x768) ![k.val, 0, 0] S1x32x768.size (inb_slot k)).emb (ix3 0 r o) = (ix3 k r o : S31x32x768.Idx) := funext fun
    | 0 => Fin.ext (show k.val + 1 * 0 = k.val by omega)
    | 1 => Fin.ext (show 0 + 1 * r.val = r.val by omega)
    | 2 => Fin.ext (show 0 + 1 * o.val = o.val by omega)
  exact congrArg (rV I c) e

/-! ## The partial products -/

theorem qB_apply (c : Dev nD) (b : Fin 2) (r n : Fin 512) :
    qB I c b (ix2 r n) = ∑ k : Fin 768, I.x c (ix3 b r k) * I.wq c (ix2 k ⟨512 * c.val + n.val, col_lt c n⟩) := by
  pointwise [qB, k0_pay4, k0_pay2]
  simp only [xB_apply, wqL_apply]

/-- The head that column `n` of a device's heads is of, with its queries, keys and values by name. -/
def headC (c : Dev nD) (b : Fin 2) (i n : Fin 512) : EReal :=
  head (fun i d => qB I c b (ix2 i ⟨64 * (n.val / 64) + d.val, by omega⟩)) (fun j d => I.k c (ix4 b ⟨n.val / 64, by omega⟩ j d))
    (fun j d => I.v c (ix4 b ⟨n.val / 64, by omega⟩ j d)) i ⟨n.val % 64, by omega⟩

theorem headB_apply (c : Dev nD) (b : Fin 2) (h : Fin 8) (i : Fin 512) (d : Fin 64) :
    headB I c b h (ix2 i d) = head (fun i d => qB I c b (ix2 i ⟨64 * h.val + d.val, by omega⟩)) (fun j d => I.k c (ix4 b h j d))
      (fun j d => I.v c (ix4 b h j d)) i d := by
  unfold headB
  rw [headAt_apply _ _ _ (fun d => by omega)]
  simp only [kB_apply, vB_apply]

theorem ctxB_apply (c : Dev nD) (b : Fin 2) (i n : Fin 512) : ctxB I c b (ix2 i n) = headC I c b i n := by
  have key : ∀ h : Fin 8, ∀ d : Fin 64, n.val = 64 * h.val + d.val → headB I c b h (ix2 i d) = headC I c b i n := by
    intro h d e
    have h1 : n.val / 64 = h.val := by omega
    have h2 : n.val % 64 = d.val := by omega
    rw [headB_apply]
    unfold headC
    simp only [h1, h2]
  have hn := n.isLt
  pointwise [ctxB]
  repeat' split
  all_goals exact key _ _ (by simp only [Fin.val_ofNat, Fin.isValue]; omega)

theorem partB_apply (c : Dev nD) (b : Fin 2) (i : Fin 512) (o : Fin 768) :
    partB I c b (ix2 i o) = ∑ n : Fin 512, headC I c b i n * I.wo c (ix2 ⟨512 * c.val + n.val, col_lt c n⟩ o) := by
  pointwise [partB, k0_pay3]
  simp only [ctxB_apply, woL_apply]

/-- Row `r` of a device's partial products. -/
theorem pV_apply (c : Dev nD) (r : Fin 1024) (o : Fin 768) :
    pV I c (ix2 r o) = ∑ n : Fin 512, headC I c ⟨r.val / 512, by omega⟩ ⟨r.val % 512, by omega⟩ n
      * I.wo c (ix2 ⟨512 * c.val + n.val, col_lt c n⟩ o) := by
  unfold pV
  simp only [← ix2_eq_valueIdx]
  by_cases h : r.val < 512
  · refine (dif_pos h).trans ((partB_apply I c 0 ⟨r.val, h⟩ o).trans ?_)
    have h1 : r.val / 512 = 0 := by omega
    have h2 : r.val % 512 = r.val := by omega
    simp only [h1, h2]
    rfl
  · refine (dif_neg h).trans ((partB_apply I c 1 ⟨r.val - 512, by omega⟩ o).trans ?_)
    have h1 : r.val / 512 = 1 := by omega
    have h2 : r.val % 512 = r.val - 512 := by omega
    simp only [h1, h2]
    rfl

/-! ## The sum over the devices -/

theorem accN_apply (c : Dev nD) (r : Fin 32) (o : Fin 768) : ∀ n ≤ 31,
    accN I c n (ix2 r o) = pV I c (ix2 ⟨32 * c.val + r.val, row_lt c r⟩ o)
      + ∑ j ∈ Finset.range n, pV I (nxt c (30 - j)) (ix2 ⟨32 * c.val + r.val, row_lt c r⟩ o)
  | 0, _ => by
    unfold accN
    pointwise [k0_pay41]
    rw [ownL_apply, Finset.sum_range_zero, add_zero]
  | n + 1, hn => by
    unfold accN addSlot
    rw [Finset.sum_range_succ, ← add_assoc, ← accN_apply c r o n (by omega)]
    pointwise
    rw [slotL_apply]

/-- A sum over the ring from any device on. -/
theorem sum_ring (c : Dev nD) (f : Dev nD → EReal) : f c + ∑ j ∈ Finset.range 31, f (nxt c (30 - j)) = ∑ d : Dev nD, f d := by
  rw [Finset.sum_range_reflect (fun j => f (nxt c j)) 31, Finset.sum_range]
  have h : (∑ d : Fin 32, f d) = ∑ j : Fin 32, f ((c : Fin 32) + j) := (Equiv.sum_comp (Equiv.addLeft (c : Fin 32)) f).symm
  refine Eq.trans ?_ (h.trans (Fin.sum_univ_succ fun j : Fin 32 => f ((c : Fin 32) + j))).symm
  refine congrArg₂ _ (congrArg f (add_zero (c : Fin 32)).symm) (Finset.sum_congr rfl fun j _ => congrArg f (Fin.ext ?_))
  rw [Fin.val_add]
  rfl

theorem accV_apply (c : Dev nD) (r : Fin 32) (o : Fin 768) :
    accV I c (ix2 r o) = ∑ d : Dev nD, pV I d (ix2 ⟨32 * c.val + r.val, row_lt c r⟩ o) :=
  (accN_apply I c r o 31 le_rfl).trans (sum_ring c fun d => pV I d (ix2 ⟨32 * c.val + r.val, row_lt c r⟩ o))

theorem outV_acc (c : Dev nD) (i : S1024x768.Idx) : outV I c i = accV I (rowDev i) (rowIx i) := by
  unfold outV
  split
  · rename_i h
    rw [h]
  · unfold gC
    pointwise [k0_pay58, k0_pay57]

/-- The kernel's result at an index: every device's heads times its rows of the output weights, summed. -/
theorem outV_apply (c : Dev nD) (r : Fin 1024) (o : Fin 768) :
    outV I c (ix2 r o) = ∑ d : Dev nD, ∑ n : Fin 512, headC I d ⟨r.val / 512, by omega⟩ ⟨r.val % 512, by omega⟩ n
      * I.wo d (ix2 ⟨512 * d.val + n.val, col_lt d n⟩ o) := by
  rw [outV_acc]
  refine (accV_apply I (rowDev (ix2 r o)) ⟨r.val % 32, by omega⟩ o).trans ?_
  have e : (⟨32 * (rowDev (ix2 r o)).val + r.val % 32, row_lt (rowDev (ix2 r o)) ⟨r.val % 32, by omega⟩⟩ : Fin 1024) = r :=
    Fin.ext (show 32 * (r.val / 32) + r.val % 32 = r.val by omega)
  refine Finset.sum_congr rfl fun d _ => ?_
  show pV I d (ix2 (⟨32 * (rowDev (ix2 r o)).val + r.val % 32, _⟩ : Fin 1024) o) = _
  rw [e]
  exact pV_apply I d r o

end Cert.KernelIdeal.Talk
-- ==== Proof.Ref.lean ====
/-
  The reference's result over the extended reals: its composed term in steps, each step read at an index.
-/
module

public import proofs.«01_k».proof.Proof.Heads
public import proofs.«01_k».proof.Proof.Gen.ReferenceIdeal.Run
public import Idealize.ShloMosaic.Lib.Tactic.CleanTypes

@[expose] public section

set_option maxRecDepth 16384

noncomputable section

namespace Cert.ReferenceIdeal.Talk

open Idealize.ShloMosaic Idealize.ShloMosaic.TcCoe
open Cert.ReferenceIdeal.Gen
open Cert.KernelIdeal.Talk (seen score top wgt head)

variable (x : FVec Ideal S2x512x768 .f32) (wq : FVec Ideal S768x16384 .f32) (k v : FVec Ideal S2x512x256x64 .f32) (wo : FVec Ideal S16384x768 .f32)

/-- The queries. -/
def rQ : FVec Ideal S2x512x256x64 .f32 :=
  shapeCast S2x512x256x64 (Host.dotGeneral dot_S2x512x768_S768x16384_S2x512x16384_2_0_01_1_n_n none x wq : FVec Ideal S2x512x16384 .f32) shapeCasts_S2x512x16384_S2x512x256x64

/-- Which keys a query sees. -/
def rMask : IVec S512x512 1 :=
  cmpi .sle (absi (subi (broadcastInDim S512x512 ![0, 1] bcast_S512x1_S512x512_0_1 (broadcastInDim S512x1 ![0] bcast_S512_S512x1_0 (iotaInDim S512 32 0)))
    (broadcastInDim S512x512 ![0, 1] bcast_S1x512_S512x512_0_1 (broadcastInDim S1x512 ![1] bcast_S512_S1x512_1 (iotaInDim S512 32 0)))))
    (broadcastInDim S512x512 ![] bcast_S_S512x512 (constantI S_ 32 128#32))

/-- Whether a query sees any key. -/
def rKeep : IVec S1x1x512x1 1 :=
  broadcastInDim S1x1x512x1 ![2] bcast_S512_S1x1x512x1_2 (Host.reduce IntOp.ori rMask (constantI S_ 1 0#1) reducesTo_S512x512_S512_d1 h_S_)

/-- The masked, scaled scores. -/
def rS : FVec Ideal S2x256x512x512 .f32 :=
  select (broadcastInDim S2x256x512x512 ![0, 1, 2, 3] bcast_S1x1x512x512_S2x256x512x512_0_1_2_3 (broadcastInDim S1x1x512x512 ![2, 3] bcast_S512x512_S1x1x512x512_2_3 rMask))
    (mulf (Host.dotGeneral dot_S2x512x256x64_S2x512x256x64_S2x256x512x512_3_3_1_1_02_02 none (rQ x wq) k)
      (broadcastInDim S2x256x512x512 ![] bcast_S_S2x256x512x512 (constant S_ .f32 0x3E000000#32)))
    (broadcastInDim S2x256x512x512 ![] bcast_S_S2x256x512x512 (id (constant S_ .f32 0xCE6E6B28#32)))

/-- The weights before the division. -/
def rE : FVec Ideal S2x256x512x512 .f32 :=
  Host.exp (subf (rS x wq k) (broadcastInDim S2x256x512x512 ![0, 1, 2, 3] bcast_S2x256x512x1_S2x256x512x512_0_1_2_3 (broadcastInDim S2x256x512x1 ![0, 1, 2] bcast_S2x256x512_S2x256x512x1_0_1_2
    (Host.reduce FloatOps.maximumf (rS x wq k) (constant S_ .f32 0xFF800000#32) reducesTo_S2x256x512x512_S2x256x512_d3 h_S_))))

/-- The weights. -/
def rW : FVec Ideal S2x256x512x512 .f32 :=
  select (broadcastInDim S2x256x512x512 ![0, 1, 2, 3] bcast_S1x1x512x1_S2x256x512x512_0_1_2_3 rKeep)
    (Host.divf (rE x wq k) (broadcastInDim S2x256x512x512 ![0, 1, 2, 3] bcast_S2x256x512x1_S2x256x512x512_0_1_2_3
      (select (broadcastInDim S2x256x512x1 ![0, 1, 2, 3] bcast_S1x1x512x1_S2x256x512x1_0_1_2_3 rKeep)
        (broadcastInDim S2x256x512x1 ![0, 1, 2] bcast_S2x256x512_S2x256x512x1_0_1_2 (Host.reduceAdd (rE x wq k) (constant S_ .f32 0x00000000#32) reducesTo_S2x256x512x512_S2x256x512_d3 h_S_))
        (broadcastInDim S2x256x512x1 ![] bcast_S_S2x256x512x1 (id (constant S_ .f32 0x3F800000#32))))))
    (broadcastInDim S2x256x512x512 ![] bcast_S_S2x256x512x512 (id (constant S_ .f32 0x00000000#32)))

/-- The heads side by side. -/
def rCtx : FVec Ideal S2x512x16384 .f32 :=
  shapeCast S2x512x16384 (transpose S2x512x256x64 [0, 3, 1, 2] (Host.dotGeneral dot_S2x512x256x64_S2x256x512x512_S2x256x64x512_1_3_3_2_02_01 none v (rW x wq k))
    transposes_S2x256x64x512_S2x512x256x64_0_3_1_2) shapeCasts_S2x512x256x64_S2x512x16384

/-- The result. -/
def rOut : FVec Ideal S2x512x768 .f32 := Host.dotGeneral dot_S2x512x16384_S16384x768_S2x512x768_2_0_01_1_n_n none (rCtx x wq k v) wo

theorem res_eq (m : (ℓ : Loc nD τ sig) → Buf (Elt Ideal) ℓ) (c : Dev nD) :
    Value.res_out0 m c = rOut (m ((c : Thread nD τ).loc main_arg0)) (m ((c : Thread nD τ).loc main_arg1)) (m ((c : Thread nD τ).loc main_arg2))
      (m ((c : Thread nD τ).loc main_arg3)) (m ((c : Thread nD τ).loc main_arg4)) := rfl

theorem rQ_apply (b : Fin 2) (i : Fin 512) (h : Fin 256) (d : Fin 64) :
    rQ x wq (ix4 b i h d) = ∑ l : Fin 768, x (ix3 b i l) * wq (ix2 l ⟨64 * h.val + d.val, by omega⟩) := by
  pointwise [rQ]
  simp only [mul_comm h.val 64]

theorem rMask_apply (i j : Fin 512) : rMask (ix2 i j) = seen i j := by
  pointwise [rMask, seen]

theorem seen_self (i : Fin 512) : seen i i = 1#1 := by
  unfold seen
  rw [show IntOp.subi (BitVec.ofNat 32 i.val) (BitVec.ofNat 32 i.val) = 0#32 from BitVec.sub_self _]
  decide

theorem rKeep_apply (i : Fin 512) : rKeep (ix4 0 0 i 0) = 1#1 := by
  pointwise [rKeep]
  refine (Routing.fold_ori _ _).mpr ⟨i, Finset.mem_univ i, ?_⟩
  rw [rMask_apply]
  exact seen_self i

variable (b : Fin 2) (h : Fin 256)

/-- The queries, keys and values of one head. -/
def qh (i : Fin 512) (d : Fin 64) : EReal := rQ x wq (ix4 b i h d)
def kh (j : Fin 512) (d : Fin 64) : EReal := k (ix4 b j h d)

theorem rS_apply (i j : Fin 512) : rS x wq k (ix4 b h i j) = score (qh x wq b h) (kh k b h) i j := by
  pointwise [rS, score, qh, kh]
  simp only [rMask_apply, id_eq]
  rfl

theorem rE_apply (i j : Fin 512) : rE x wq k (ix4 b h i j) = wgt (qh x wq b h) (kh k b h) i j := by
  pointwise [rE, wgt, top]
  simp only [rS_apply]

theorem rW_apply (i j : Fin 512) : rW x wq k (ix4 b h i j)
    = Ideal.div (wgt (qh x wq b h) (kh k b h) i j) (∑ l : Fin 512, wgt (qh x wq b h) (kh k b h) i l) := by
  pointwise [rW]
  simp only [rE_apply, rKeep_apply]
  exact (ValueIdx.select_one _ _).trans (congrArg _ (ValueIdx.select_one _ _))

theorem rCtx_apply (i : Fin 512) (n : Fin 16384) : rCtx x wq k v (ix3 b i n)
    = head (qh x wq b ⟨n.val / 64, by omega⟩) (kh k b ⟨n.val / 64, by omega⟩) (kh v b ⟨n.val / 64, by omega⟩) i ⟨n.val % 64, by omega⟩ := by
  pointwise [rCtx, head]
  simp only [rW_apply]
  exact Finset.sum_congr rfl fun j _ => mul_comm _ _

theorem rOut_apply (i : Fin 512) (o : Fin 768) : rOut x wq k v wo (ix3 b i o)
    = ∑ n : Fin 16384, head (qh x wq b ⟨n.val / 64, by omega⟩) (kh k b ⟨n.val / 64, by omega⟩) (kh v b ⟨n.val / 64, by omega⟩) i ⟨n.val % 64, by omega⟩
      * wo (ix2 n o) := by
  pointwise [rOut]
  simp only [rCtx_apply]

end Cert.ReferenceIdeal.Talk
-- ==== Proof.Equal.lean ====
/-
  The kernel's result on every device is the reference's: the two sums over the heads' columns are one sum.
-/
module

public import proofs.«01_k».proof.Proof.Value
public import proofs.«01_k».proof.Proof.Ref
public import proofs.«01_k».proof.Proof.Region

@[expose] public section

set_option maxRecDepth 16384

noncomputable section

namespace Cert.KernelIdeal.Talk

open Idealize.ShloMosaic Idealize.ShloMosaic.TcCoe
open Cert.KernelIdeal.Gen

/-- Head `h` of device `c` among all heads. -/
def headOf (c : Dev nD) (h : Fin 8) : Fin 256 := ⟨8 * c.val + h.val, by have : c.val < 32 := c.isLt; omega⟩

/-- The devices' inputs are their parts of the whole arrays. -/
structure Parts (I : Ins Ideal) (x : FVec Ideal S2x512x768 .f32) (wq : FVec Ideal S768x16384 .f32)
    (k v : FVec Ideal Cert.ReferenceIdeal.S2x512x256x64 .f32) (wo : FVec Ideal S16384x768 .f32) : Prop where
  x : ∀ c, I.x c = x
  wq : ∀ c, I.wq c = wq
  k : ∀ c b h j d, I.k c (ix4 b h j d) = k (ix4 b j (headOf c h) d)
  v : ∀ c b h j d, I.v c (ix4 b h j d) = v (ix4 b j (headOf c h) d)
  wo : ∀ c, I.wo c = wo

variable {I : Ins Ideal} {x : FVec Ideal S2x512x768 .f32} {wq : FVec Ideal S768x16384 .f32}
  {k v : FVec Ideal Cert.ReferenceIdeal.S2x512x256x64 .f32} {wo : FVec Ideal S16384x768 .f32} (P : Parts I x wq k v wo)
include P

/-- The queries of a head, on its device and in the reference. -/
theorem query_eq (c : Dev nD) (b : Fin 2) (h : Fin 8) (i : Fin 512) (d : Fin 64) :
    qB I c b (ix2 i ⟨64 * h.val + d.val, by omega⟩) = Cert.ReferenceIdeal.Talk.qh x wq b (headOf c h) i d := by
  unfold Cert.ReferenceIdeal.Talk.qh
  rw [qB_apply, Cert.ReferenceIdeal.Talk.rQ_apply, P.x, P.wq]
  refine Finset.sum_congr rfl fun l _ => congrArg _ (congrArg wq (congrArg (ix2 l) (Fin.ext ?_)))
  show 512 * c.val + (64 * h.val + d.val) = 64 * (8 * c.val + h.val) + d.val
  omega

/-- A column of a device's heads is the reference's column. -/
theorem column_eq (c : Dev nD) (b : Fin 2) (i n : Fin 512) (N : Fin 16384) (hN : N.val = 512 * c.val + n.val) :
    headC I c b i n = head (Cert.ReferenceIdeal.Talk.qh x wq b ⟨N.val / 64, by omega⟩) (Cert.ReferenceIdeal.Talk.kh k b ⟨N.val / 64, by omega⟩)
      (Cert.ReferenceIdeal.Talk.kh v b ⟨N.val / 64, by omega⟩) i ⟨N.val % 64, by omega⟩ := by
  have h1 : (⟨N.val / 64, by omega⟩ : Fin 256) = headOf c ⟨n.val / 64, by omega⟩ := Fin.ext (show N.val / 64 = 8 * c.val + n.val / 64 by omega)
  have h2 : (⟨N.val % 64, by omega⟩ : Fin 64) = ⟨n.val % 64, by omega⟩ := Fin.ext (show N.val % 64 = n.val % 64 by omega)
  rw [h1, h2]
  unfold headC
  congr 1
  · exact funext fun i => funext fun d => query_eq P c b ⟨n.val / 64, by omega⟩ i d
  · exact funext fun j => funext fun d => P.k c b _ j d
  · exact funext fun j => funext fun d => P.v c b _ j d

/-- The kernel's result is the reference's. -/
theorem result_eq (c : Dev nD) (b : Fin 2) (i : Fin 512) (o : Fin 768) :
    outV I c (ix2 ⟨512 * b.val + i.val, by omega⟩ o) = Cert.ReferenceIdeal.Talk.rOut x wq k v wo (ix3 b i o) := by
  have h1 : (⟨(512 * b.val + i.val) / 512, by omega⟩ : Fin 2) = b := Fin.ext (show (512 * b.val + i.val) / 512 = b.val by omega)
  have h2 : (⟨(512 * b.val + i.val) % 512, by omega⟩ : Fin 512) = i := Fin.ext (show (512 * b.val + i.val) % 512 = i.val by omega)
  rw [outV_apply, Cert.ReferenceIdeal.Talk.rOut_apply, h1, h2]
  refine Eq.trans ?_ (Equiv.sum_comp (finProdFinEquiv (m := 32) (n := 512)) _)
  rw [Fintype.sum_prod_type]
  refine Finset.sum_congr rfl fun d _ => Finset.sum_congr rfl fun n _ => ?_
  have e : (finProdFinEquiv ((d : Fin 32), n)).val = 512 * d.val + n.val := by
    rw [finProdFinEquiv_apply_val]
    exact add_comm _ _
  rw [P.wo, column_eq P d b i n (finProdFinEquiv ((d : Fin 32), n)) e]
  exact congrArg _ (congrArg wo (congrArg (fun z => ix2 z o) (Fin.ext e.symm)))

end Cert.KernelIdeal.Talk
-- ==== Proof.Algebra.lean ====
/-
  The value claim: on every device the kernel ends holding the reference's result.
-/
module

public import proofs.«01_k».proof.Defs
public import proofs.«01_k».proof.Proof.Equal
public import proofs.«01_k».proof.Proof.Launch
public import Idealize.ShloMosaic.Lib.LayoutAt

@[expose] public section

set_option maxRecDepth 16384

noncomputable section

namespace Cert.KernelIdeal.Talk

open Idealize.ShloMosaic Idealize.ShloMosaic.TcCoe Idealize.SL.Sem
open Cert.KernelIdeal.Gen

section Inputs

variable {F : FTy → Type} [FloatOps F] (m : (ℓ : Loc nD τ sig) → Buf (Elt F) ℓ)

/-- The keys reach the kernel head-major. -/
theorem V_keys (c : Dev nD) :
    V m c main_v1 = (transpose S2x8x512x64 [0, 2, 1, 3] (m ((c : Thread nD τ).loc main_arg2)) transposes_S2x512x8x64_S2x8x512x64_0_2_1_3 : Vec F S2x8x512x64 .f32) := by
  unfold V V0
  simp only [List.flatten_cons, List.flatten_nil, List.append_nil]
  after_results_simp

/-- So do the values. -/
theorem V_values (c : Dev nD) :
    V m c main_v2 = (transpose S2x8x512x64 [0, 2, 1, 3] (m ((c : Thread nD τ).loc main_arg3)) transposes_S2x512x8x64_S2x8x512x64_0_2_1_3 : Vec F S2x8x512x64 .f32) := by
  unfold V V0
  simp only [List.flatten_cons, List.flatten_nil, List.append_nil]
  after_results_simp

end Inputs

/-- A device's heads, head-major, are its block of the whole array. -/
theorem heads_of (X : FVec Ideal S2x512x8x64 .f32) (Y : FVec Ideal Cert.ReferenceIdeal.S2x512x256x64 .f32) (c : Fin 32)
    (h : X = Layout.block ⟨4, ![2, 512, 8, 64]⟩ ⟨4, ![2, 512, 256, 64]⟩ 2 32 c Y) (b : Fin 2) (n : Fin 8) (j : Fin 512) (d : Fin 64) :
    (transpose S2x8x512x64 [0, 2, 1, 3] X transposes_S2x512x8x64_S2x8x512x64_0_2_1_3 : Vec Ideal S2x8x512x64 .f32) (ix4 b n j d)
      = Y (ix4 b j (headOf c n) d) := by
  pointwise
  rw [h]
  refine congrArg Y (funext fun a => Fin.ext ?_)
  match a with
  | 0 => rfl
  | 1 => rfl
  | 2 => exact Nat.add_right_cancel_iff.mpr (Nat.mul_comm _ _)
  | 3 => rfl

variable (m : (ℓ : Loc nD τ sig) → Buf (Elt Ideal) ℓ)

theorem parts (x : FVec Ideal S2x512x768 .f32) (wq : FVec Ideal S768x16384 .f32)
    (k v : FVec Ideal Cert.ReferenceIdeal.S2x512x256x64 .f32) (wo : FVec Ideal S16384x768 .f32)
    (h : ∀ c : Dev nD, m ((c : Thread nD τ).loc main_arg0) = x ∧ m ((c : Thread nD τ).loc main_arg1) = wq
      ∧ m ((c : Thread nD τ).loc main_arg2) = Layout.block ⟨4, ![2, 512, 8, 64]⟩ ⟨4, ![2, 512, 256, 64]⟩ 2 32 c k
      ∧ m ((c : Thread nD τ).loc main_arg3) = Layout.block ⟨4, ![2, 512, 8, 64]⟩ ⟨4, ![2, 512, 256, 64]⟩ 2 32 c v
      ∧ m ((c : Thread nD τ).loc main_arg4) = wo) : Parts (ins m) x wq k v wo where
  x c := (V_main_arg0 m c).trans (h c).1
  wq c := (V_main_arg1 m c).trans (h c).2.1
  k c b n j d := (congrFun (V_keys m c) _).trans (heads_of _ k c (h c).2.2.1 b n j d)
  v c b n j d := (congrFun (V_values m c) _).trans (heads_of _ v c (h c).2.2.2.1 b n j d)
  wo c := (V_main_arg4 m c).trans (h c).2.2.2.2

/-- The kernel's result as @main returns it. -/
theorem result_cast {I : Ins Ideal} {x : FVec Ideal S2x512x768 .f32} {wq : FVec Ideal S768x16384 .f32}
    {k v : FVec Ideal Cert.ReferenceIdeal.S2x512x256x64 .f32} {wo : FVec Ideal S16384x768 .f32} (P : Parts I x wq k v wo) (c : Dev nD) :
    shapeCast S2x512x768 (outV I c) shapeCasts_S1024x768_S2x512x768 = Cert.ReferenceIdeal.Talk.rOut x wq k v wo := by
  funext j
  obtain ⟨b, i, o, rfl⟩ : ∃ (b : Fin 2) (i : Fin 512) (o : Fin 768), j = ix3 b i o := ⟨j 0, j 1, j 2, eq_ix3 j⟩
  rw [← result_eq P c b i o]
  pointwise
  simp only [Nat.mul_comm b.val 512]

end Cert.KernelIdeal.Talk

namespace Cert.Proof

open Idealize.ShloMosaic Idealize.SL.Sem Cert.KernelIdeal.Talk

/-- On every device the kernel ends holding the reference's result. -/
theorem value : Cert.algebraic_KernelIdeal_ReferenceIdeal := fun m g m' g' _ h =>
  ⟨Cert.ReferenceIdeal.Value.res_out0 m' 0,
    (θ_run Cert.KernelIdeal.defs _ _).mono (fun _ r c => ⟨(r.1 c).2.trans ((result_cast (parts m _ _ _ _ _ h) c).trans (Cert.ReferenceIdeal.Talk.res_eq m' 0).symm), (r.1 c).1⟩)
      (run_main (F := Ideal) m g),
    (θ_run Cert.ReferenceIdeal.defs _ _).mono (fun _ r => r 0) (Cert.ReferenceIdeal.Value.run (F := Ideal) m' g')⟩

end Cert.Proof
-- ==== Proof.lean ====
/- The claims, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The two programs have the same body table. -/
theorem defs₀_same : @Cert.Kernel.defs₀ Bits _ _ = @Cert.KernelIdeal.defs₀ Bits _ _ := by
  unfold Cert.Kernel.defs₀ Cert.KernelIdeal.defs₀
  refine congrArg Defs.onTc (funext fun l => funext fun a => ?_)
  fin_cases l
  obtain ⟨t, s⟩ := a
  rfl

theorem defs_same : @Cert.Kernel.defs Bits _ _ = @Cert.KernelIdeal.defs Bits _ _ := congrArg (Pipeline.defs _) defs₀_same

/-- The kernel's frame at bit patterns: the two programs' texts are the same, and so is the run. -/
theorem frame_kernel : Cert.quiescent_Kernel := fun m g _ => by
  rw [defs_same]
  exact (θ_run Cert.KernelIdeal.defs _ _).mono (fun _ h => ⟨fun c => (h.1 c).1, h.2⟩) (Cert.KernelIdeal.Talk.run_main (F := Bits) m g)

/-- The kernel's frame at extended reals. -/
theorem frame_ideal : Cert.quiescent_KernelIdeal := fun m g _ =>
  (θ_run Cert.KernelIdeal.defs _ _).mono (fun _ h => ⟨fun c => (h.1 c).1, h.2⟩) (Cert.KernelIdeal.Talk.run_main (F := Ideal) m g)

/-- The reference's frame. -/
theorem frame_reference : Cert.quiescent_ReferenceIdeal := fun m g _ =>
  (θ_run Cert.ReferenceIdeal.defs _ _).mono (fun _ h => ⟨fun c => (h c).2, sem_eq_zero_of_no_sems (by decide) _⟩)
    (Cert.ReferenceIdeal.Value.run (F := Ideal) m g)

theorem claim : Cert.Claim := ⟨Cert.Kernel.Gen.facts, Cert.KernelIdeal.Gen.facts, Cert.ReferenceIdeal.Gen.facts,
  frame_kernel, frame_ideal, frame_reference, trivial, value⟩

end Cert.Proof

end
